-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_eigen_weights [hPre_finite_and_no_eigen_weights : Cert.Pre_finite_and_no_eigen_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_eigen_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_eigen_weights [hPre_finite_and_no_eigen_weights : Cert.Pre_finite_and_no_eigen_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_eigen_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_no_eigen_weights [hKernelIdeal : Cert.KernelIdeal.Facts] [hPre_finite_and_no_eigen_weights : Cert.Pre_finite_and_no_eigen_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_eigen_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_no_eigen_weights [hReferenceIdeal : Cert.ReferenceIdeal.Facts] [hPre_finite_and_no_eigen_weights : Cert.Pre_finite_and_no_eigen_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_eigen_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_no_eigen_weights [hKernelIdeal : Cert.KernelIdeal.Facts] [hReferenceIdeal : Cert.ReferenceIdeal.Facts] [hPre_finite_and_no_eigen_weights : Cert.Pre_finite_and_no_eigen_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_eigen_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_no_eigen_weights : Cert.Pre_finite_and_no_eigen_weights.Facts),
    quiescent_Kernel (hKernel := hKernel)
    ∧ quiescent_KernelIdeal (hKernelIdeal := hKernelIdeal)
    ∧ quiescent_KernelIdeal_pre_finite_and_no_eigen_weights (hKernelIdeal := hKernelIdeal) (hPre_finite_and_no_eigen_weights := hPre_finite_and_no_eigen_weights)
    ∧ quiescent_ReferenceIdeal (hReferenceIdeal := hReferenceIdeal)
    ∧ quiescent_ReferenceIdeal_pre_finite_and_no_eigen_weights (hReferenceIdeal := hReferenceIdeal) (hPre_finite_and_no_eigen_weights := hPre_finite_and_no_eigen_weights)
    ∧ preserves_Kernel_KernelIdeal
    ∧ algebraic_KernelIdeal_ReferenceIdeal_pre_finite_and_no_eigen_weights (hKernelIdeal := hKernelIdeal) (hReferenceIdeal := hReferenceIdeal) (hPre_finite_and_no_eigen_weights := hPre_finite_and_no_eigen_weights)
-- ==== Pre_finite_and_no_eigen_weights.lean ====
abbrev S2x128x4096 : Shape := ⟨3, ![2, 128, 4096]⟩
abbrev S2x4096x3 : Shape := ⟨3, ![2, 4096, 3]⟩
abbrev S16x40 : Shape := ⟨2, ![16, 40]⟩
abbrev S16 : Shape := ⟨1, ![16]⟩
abbrev S16x16 : Shape := ⟨2, ![16, 16]⟩
abbrev S128x144 : Shape := ⟨2, ![128, 144]⟩
abbrev S128 : Shape := ⟨1, ![128]⟩
abbrev S128x128 : Shape := ⟨2, ![128, 128]⟩
abbrev S16x3 : Shape := ⟨2, ![16, 3]⟩
abbrev S_ : Shape := ⟨0, ![]⟩

class Facts : Prop where
  slices_S16x40_S16x3_0_27 : S16x40.Slices ![0, 27] S16x3
  bcast_S_S16x3 : S_.BroadcastsInDim S16x3 (![] : Fin 0 → Fin S16x3.rank)
  reducesTo_S16x3_S_d0_1 : S16x3.ReducesTo [0, 1] S_
  h_S_ : 0 < S_.numel
  bcast_S_S2x128x4096 : S_.BroadcastsInDim S2x128x4096 (![] : Fin 0 → Fin S2x128x4096.rank)
  reducesTo_S2x128x4096_S_d0_1_2 : S2x128x4096.ReducesTo [0, 1, 2] S_
  bcast_S_S2x4096x3 : S_.BroadcastsInDim S2x4096x3 (![] : Fin 0 → Fin S2x4096x3.rank)
  reducesTo_S2x4096x3_S_d0_1_2 : S2x4096x3.ReducesTo [0, 1, 2] S_
  bcast_S_S16x40 : S_.BroadcastsInDim S16x40 (![] : Fin 0 → Fin S16x40.rank)
  reducesTo_S16x40_S_d0_1 : S16x40.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S128x144 : S_.BroadcastsInDim S128x144 (![] : Fin 0 → Fin S128x144.rank)
  reducesTo_S128x144_S_d0_1 : S128x144.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg10 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg10
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg6 : FVec F S16x16 .f32) (main_arg7 : FVec F S16 .f32) (main_arg8 : FVec F S128x144 .f32) (main_arg9 : FVec F S128 .f32) (main_arg10 : FVec F S128 .f32) (main_v33 : IVec S_ 1) : IVec S_ 1 :=
  let main_v34 : FVec F S16x16 .f32 := Host.absf main_arg6
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg7
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S128x144 .f32 := Host.absf main_arg8
  let main_cst_16 : FVec F S_ .f32 := constant S_ .f32 0x7F800000#32
  let main_v45 : FVec F S128x144 .f32 := broadcastInDim S128x144 ![] bcast_S_S128x144 main_cst_16
  let main_v46 : IVec S128x144 1 := cmpf .olt main_v44 main_v45
  let main_c_17 : IVec S_ 1 := constantI S_ 1 1#1
  let main_v47 : IVec S_ 1 := (fun x v => Host.reduce IntOp.andi x v reducesTo_S128x144_S_d0_1 h_S_) main_v46 main_c_17
  let main_v48 : IVec S_ 1 := andi main_v43 main_v47
  let main_v49 : FVec F S128 .f32 := Host.absf main_arg9
  let main_cst_18 : FVec F S_ .f32 := constant S_ .f32 0x7F800000#32
  let main_v50 : FVec F S128 .f32 := broadcastInDim S128 ![] bcast_S_S128 main_cst_18
  fn_part3 (F := F) main_arg10 main_v48 main_v49 main_v50

def fn_part1 {F : FTy → Type} [FloatOps F] (main_arg3 : FVec F S16 .f32) (main_arg4 : FVec F S16 .f32) (main_arg5 : FVec F S16 .f32) (main_arg6 : FVec F S16x16 .f32) (main_arg7 : FVec F S16 .f32) (main_arg8 : FVec F S128x144 .f32) (main_arg9 : FVec F S128 .f32) (main_arg10 : FVec F S128 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S16 .f32 := Host.absf main_arg3
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg4
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg5
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg6 main_arg7 main_arg8 main_arg9 main_arg10 main_v33

def fn {F : FTy → Type} [FloatOps F] (main_arg0 : FVec F S2x128x4096 .f32) (main_arg1 : FVec F S2x4096x3 .f32) (main_arg2 : FVec F S16x40 .f32) (main_arg3 : FVec F S16 .f32) (main_arg4 : FVec F S16 .f32) (main_arg5 : FVec F S16 .f32) (main_arg6 : FVec F S16x16 .f32) (main_arg7 : FVec F S16 .f32) (main_arg8 : FVec F S128x144 .f32) (main_arg9 : FVec F S128 .f32) (main_arg10 : FVec F S128 .f32) (main_arg11 : FVec F S128 .f32) (main_arg12 : FVec F S128x128 .f32) (main_arg13 : FVec F S128 .f32) : IVec S_ 1 :=
  let main_v0 : FVec F S16x3 .f32 := (extractStridedSlice S16x3 ![0, 27] · slices_S16x40_S16x3_0_27) main_arg2
  let main_cst : FVec F S_ .f32 := constant S_ .f32 0x00000000#32
  let main_v1 : FVec F S16x3 .f32 := broadcastInDim S16x3 ![] bcast_S_S16x3 main_cst
  let main_v2 : IVec S16x3 1 := cmpf .oeq main_v0 main_v1
  let main_c : IVec S_ 1 := constantI S_ 1 1#1
  let main_v3 : IVec S_ 1 := (fun x v => Host.reduce IntOp.andi x v reducesTo_S16x3_S_d0_1 h_S_) main_v2 main_c
  let main_v4 : FVec F S2x128x4096 .f32 := Host.absf main_arg0
  let main_cst_0 : FVec F S_ .f32 := constant S_ .f32 0x7F800000#32
  let main_v5 : FVec F S2x128x4096 .f32 := broadcastInDim S2x128x4096 ![] bcast_S_S2x128x4096 main_cst_0
  let main_v6 : IVec S2x128x4096 1 := cmpf .olt main_v4 main_v5
  let main_c_1 : IVec S_ 1 := constantI S_ 1 1#1
  let main_v7 : IVec S_ 1 := (fun x v => Host.reduce IntOp.andi x v reducesTo_S2x128x4096_S_d0_1_2 h_S_) main_v6 main_c_1
  let main_v8 : IVec S_ 1 := andi main_v3 main_v7
  let main_v9 : FVec F S2x4096x3 .f32 := Host.absf main_arg1
  let main_cst_2 : FVec F S_ .f32 := constant S_ .f32 0x7F800000#32
  let main_v10 : FVec F S2x4096x3 .f32 := broadcastInDim S2x4096x3 ![] bcast_S_S2x4096x3 main_cst_2
  let main_v11 : IVec S2x4096x3 1 := cmpf .olt main_v9 main_v10
  let main_c_3 : IVec S_ 1 := constantI S_ 1 1#1
  let main_v12 : IVec S_ 1 := (fun x v => Host.reduce IntOp.andi x v reducesTo_S2x4096x3_S_d0_1_2 h_S_) main_v11 main_c_3
  let main_v13 : IVec S_ 1 := andi main_v8 main_v12
  let main_v14 : FVec F S16x40 .f32 := Host.absf main_arg2
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg3 main_arg4 main_arg5 main_arg6 main_arg7 main_arg8 main_arg9 main_arg10 main_v13 main_v16
-- ==== Kernel.lean ====
abbrev S2x128x4096 : Shape := ⟨3, ![2, 128, 4096]⟩
abbrev S2x4096x3 : Shape := ⟨3, ![2, 4096, 3]⟩
abbrev S16x40 : Shape := ⟨2, ![16, 40]⟩
abbrev S16 : Shape := ⟨1, ![16]⟩
abbrev S16x16 : Shape := ⟨2, ![16, 16]⟩
abbrev S128x144 : Shape := ⟨2, ![128, 144]⟩
abbrev S128 : Shape := ⟨1, ![128]⟩
abbrev S128x128 : Shape := ⟨2, ![128, 128]⟩
abbrev S2x3x4096 : Shape := ⟨3, ![2, 3, 4096]⟩
abbrev S2x4096x128 : Shape := ⟨3, ![2, 4096, 128]⟩
abbrev S40x16 : Shape := ⟨2, ![40, 16]⟩
abbrev S128x16 : Shape := ⟨2, ![128, 16]⟩
abbrev S16x128 : Shape := ⟨2, ![16, 128]⟩
abbrev S1x16 : Shape := ⟨2, ![1, 16]⟩
abbrev S1x128 : Shape := ⟨2, ![1, 128]⟩
abbrev S2x4096x256 : Shape := ⟨3, ![2, 4096, 256]⟩
abbrev S2x16 : Shape := ⟨2, ![2, 16]⟩
abbrev S1x256x3 : Shape := ⟨3, ![1, 256, 3]⟩
abbrev S1x3x4096 : Shape := ⟨3, ![1, 3, 4096]⟩
abbrev S1x4096x3 : Shape := ⟨3, ![1, 4096, 3]⟩
abbrev S1x256x256 : Shape := ⟨3, ![1, 256, 256]⟩
abbrev S256x3 : Shape := ⟨2, ![256, 3]⟩
abbrev S3x4096 : Shape := ⟨2, ![3, 4096]⟩
abbrev S4096x3 : Shape := ⟨2, ![4096, 3]⟩
abbrev S256x1 : Shape := ⟨2, ![256, 1]⟩
abbrev S1x4096 : Shape := ⟨2, ![1, 4096]⟩
abbrev S256x4096 : Shape := ⟨2, ![256, 4096]⟩
abbrev S256 : Shape := ⟨1, ![256]⟩
abbrev S256x13 : Shape := ⟨2, ![256, 13]⟩
abbrev S256x24 : Shape := ⟨2, ![256, 24]⟩
abbrev S24x16 : Shape := ⟨2, ![24, 16]⟩
abbrev S256x16 : Shape := ⟨2, ![256, 16]⟩
abbrev S13x16 : Shape := ⟨2, ![13, 16]⟩
abbrev S3x16 : Shape := ⟨2, ![3, 16]⟩
abbrev S256x256 : Shape := ⟨2, ![256, 256]⟩
abbrev S2x128 : Shape := ⟨2, ![2, 128]⟩
abbrev S1x1024x256 : Shape := ⟨3, ![1, 1024, 256]⟩
abbrev S1x1024x128 : Shape := ⟨3, ![1, 1024, 128]⟩
abbrev S1024x256 : Shape := ⟨2, ![1024, 256]⟩
abbrev S1024x16 : Shape := ⟨2, ![1024, 16]⟩
abbrev S1024x128 : Shape := ⟨2, ![1024, 128]⟩
abbrev S1x2048x128 : Shape := ⟨3, ![1, 2048, 128]⟩
abbrev S2048x128 : Shape := ⟨2, ![2048, 128]⟩

abbrev nBuf : Space → Nat
  | .hbm => 37
  | .vmem => 35
  | .smem => 0
  | _ => 0

abbrev bufTy : (tb : Table) → Fin (tcTables nBuf tb) → BufTy
  | .hbm, ⟨0, _⟩ => ⟨S2x128x4096, .f32⟩
  | .hbm, ⟨1, _⟩ => ⟨S2x4096x3, .f32⟩
  | .hbm, ⟨2, _⟩ => ⟨S16x40, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S128x144, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S2x3x4096, .f32⟩
  | .hbm, ⟨15, _⟩ => ⟨S2x4096x128, .f32⟩
  | .hbm, ⟨16, _⟩ => ⟨S40x16, .f32⟩
  | .hbm, ⟨17, _⟩ => ⟨S16x16, .f32⟩
  | .hbm, ⟨18, _⟩ => ⟨S128x128, .f32⟩
  | .hbm, ⟨19, _⟩ => ⟨S128x128, .f32⟩
  | .hbm, ⟨20, _⟩ => ⟨S128x16, .f32⟩
  | .hbm, ⟨21, _⟩ => ⟨S16x128, .f32⟩
  | .hbm, ⟨22, _⟩ => ⟨S128x128, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S1x16, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S2x4096x256, .f32⟩
  | .hbm, ⟨32, _⟩ => ⟨S2x16, .f32⟩
  | .hbm, ⟨33, _⟩ => ⟨S2x4096x128, .f32⟩
  | .hbm, ⟨34, _⟩ => ⟨S2x128, .f32⟩
  | .hbm, ⟨35, _⟩ => ⟨S2x4096x128, .f32⟩
  | .hbm, ⟨36, _⟩ => ⟨S2x128x4096, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x3, .f32⟩
  | .local _ .vmem, ⟨5, _⟩ => ⟨S1x4096x3, .f32⟩
  | .local _ .vmem, ⟨6, _⟩ => ⟨S40x16, .f32⟩
  | .local _ .vmem, ⟨7, _⟩ => ⟨S1x16, .f32⟩
  | .local _ .vmem, ⟨8, _⟩ => ⟨S1x256x256, .f32⟩
  | .local _ .vmem, ⟨9, _⟩ => ⟨S1x256x256, .f32⟩
  | .local _ .vmem, ⟨10, _⟩ => ⟨S2x16, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x128, .f32⟩
  | .local _ .vmem, ⟨14, _⟩ => ⟨S1x1024x128, .f32⟩
  | .local _ .vmem, ⟨15, _⟩ => ⟨S2x16, .f32⟩
  | .local _ .vmem, ⟨16, _⟩ => ⟨S1x16, .f32⟩
  | .local _ .vmem, ⟨17, _⟩ => ⟨S1x16, .f32⟩
  | .local _ .vmem, ⟨18, _⟩ => ⟨S16x16, .f32⟩
  | .local _ .vmem, ⟨19, _⟩ => ⟨S1x16, .f32⟩
  | .local _ .vmem, ⟨20, _⟩ => ⟨S128x128, .f32⟩
  | .local _ .vmem, ⟨21, _⟩ => ⟨S16x128, .f32⟩
  | .local _ .vmem, ⟨22, _⟩ => ⟨S1x128, .f32⟩
  | .local _ .vmem, ⟨23, _⟩ => ⟨S1x1024x128, .f32⟩
  | .local _ .vmem, ⟨24, _⟩ => ⟨S1x1024x128, .f32⟩
  | .local _ .vmem, ⟨25, _⟩ => ⟨S2x128, .f32⟩
  | .local _ .vmem, ⟨26, _⟩ => ⟨S1x2048x128, .f32⟩
  | .local _ .vmem, ⟨27, _⟩ => ⟨S1x2048x128, .f32⟩
  | .local _ .vmem, ⟨28, _⟩ => ⟨S2x128, .f32⟩
  | .local _ .vmem, ⟨29, _⟩ => ⟨S1x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S1x2048x128, .f32⟩
  | .local _ .vmem, ⟨34, _⟩ => ⟨S1x2048x128, .f32⟩
  | _, _ => ⟨S2x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v18_0 : Ref sig .tc := ⟨.hbm, 33, rfl⟩
abbrev main_v18_1 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem10_1 : DmaSem sig := 24
abbrev cc1_sem11_0 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S40x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 1 → Memref sig .tc .vmem S2x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev grid2 : Pipeline.Grid := ⟨2, ![2, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S2x128x4096 : Shape := ⟨3, ![2, 128, 4096]⟩
abbrev S2x4096x3 : Shape := ⟨3, ![2, 4096, 3]⟩
abbrev S16x40 : Shape := ⟨2, ![16, 40]⟩
abbrev S16 : Shape := ⟨1, ![16]⟩
abbrev S16x16 : Shape := ⟨2, ![16, 16]⟩
abbrev S128x144 : Shape := ⟨2, ![128, 144]⟩
abbrev S128 : Shape := ⟨1, ![128]⟩
abbrev S128x128 : Shape := ⟨2, ![128, 128]⟩
abbrev S_ : Shape := ⟨0, ![]⟩
abbrev S2x4096x24 : Shape := ⟨3, ![2, 4096, 24]⟩
abbrev S2x4096 : Shape := ⟨2, ![2, 4096]⟩
abbrev S2x4096x1 : Shape := ⟨3, ![2, 4096, 1]⟩
abbrev S2x1x4096 : Shape := ⟨3, ![2, 1, 4096]⟩
abbrev S2x4096x4096 : Shape := ⟨3, ![2, 4096, 4096]⟩
abbrev S2x4096x16 : Shape := ⟨3, ![2, 4096, 16]⟩
abbrev S2x4096x16x1 : Shape := ⟨4, ![2, 4096, 16, 1]⟩
abbrev S2x4096x16x3 : Shape := ⟨4, ![2, 4096, 16, 3]⟩
abbrev S2x4096x1x3 : Shape := ⟨4, ![2, 4096, 1, 3]⟩
abbrev S2x4096x16x16 : Shape := ⟨4, ![2, 4096, 16, 16]⟩
abbrev S2x4096x10 : Shape := ⟨3, ![2, 4096, 10]⟩
abbrev S2x4096x1x24 : Shape := ⟨4, ![2, 4096, 1, 24]⟩
abbrev S2x4096x16x24 : Shape := ⟨4, ![2, 4096, 16, 24]⟩
abbrev S2x4096x1x10 : Shape := ⟨4, ![2, 4096, 1, 10]⟩
abbrev S2x4096x16x10 : Shape := ⟨4, ![2, 4096, 16, 10]⟩
abbrev S2x4096x16x40 : Shape := ⟨4, ![2, 4096, 16, 40]⟩
abbrev S2x40x4096x16 : Shape := ⟨4, ![2, 40, 4096, 16]⟩
abbrev S2x16x4096x16 : Shape := ⟨4, ![2, 16, 4096, 16]⟩
abbrev S1x16x1x1 : Shape := ⟨4, ![1, 16, 1, 1]⟩
abbrev S2x16x4096 : Shape := ⟨3, ![2, 16, 4096]⟩
abbrev S2x144x4096 : Shape := ⟨3, ![2, 144, 4096]⟩
abbrev S2x4096x128 : Shape := ⟨3, ![2, 4096, 128]⟩
abbrev S1x128x1 : Shape := ⟨3, ![1, 128, 1]⟩

abbrev nBuf : Space → Nat
  | .hbm => 285
  | .vmem => 0
  | .smem => 0
  | _ => 0

abbrev hbmTy0_0 (i : Nat) : BufTy := match i % 128 with
  | 0 => ⟨S2x128x4096, .f32⟩
  | 1 => ⟨S2x4096x3, .f32⟩
  | 2 => ⟨S16x40, .f32⟩
  | 3 => ⟨S16, .f32⟩
  | 4 => ⟨S16, .f32⟩
  | 5 => ⟨S16, .f32⟩
  | 6 => ⟨S16x16, .f32⟩
  | 7 => ⟨S16, .f32⟩
  | 8 => ⟨S128x144, .f32⟩
  | 9 => ⟨S128, .f32⟩
  | 10 => ⟨S128, .f32⟩
  | 11 => ⟨S128, .f32⟩
  | 12 => ⟨S128x128, .f32⟩
  | 13 => ⟨S128, .f32⟩
  | 14 => ⟨S_, .f32⟩
  | 15 => ⟨S2x4096x3, .f32⟩
  | 16 => ⟨S2x4096x3, .f32⟩
  | 17 => ⟨S2x4096x3, .f32⟩
  | 18 => ⟨S_, .f32⟩
  | 19 => ⟨S2x4096x3, .f32⟩
  | 20 => ⟨S2x4096x3, .f32⟩
  | 21 => ⟨S_, .f32⟩
  | 22 => ⟨S2x4096x3, .f32⟩
  | 23 => ⟨S2x4096x3, .f32⟩
  | 24 => ⟨S2x4096x3, .f32⟩
  | 25 => ⟨S_, .f32⟩
  | 26 => ⟨S2x4096x3, .f32⟩
  | 27 => ⟨S2x4096x3, .f32⟩
  | 28 => ⟨S2x4096x3, .f32⟩
  | 29 => ⟨S_, .f32⟩
  | 30 => ⟨S2x4096x3, .f32⟩
  | 31 => ⟨S2x4096x3, .f32⟩
  | 32 => ⟨S2x4096x3, .f32⟩
  | 33 => ⟨S_, .f32⟩
  | 34 => ⟨S2x4096x3, .f32⟩
  | 35 => ⟨S2x4096x3, .f32⟩
  | 36 => ⟨S2x4096x3, .f32⟩
  | 37 => ⟨S_, .f32⟩
  | 38 => ⟨S2x4096x3, .f32⟩
  | 39 => ⟨S2x4096x3, .f32⟩
  | 40 => ⟨S2x4096x3, .f32⟩
  | 41 => ⟨S_, .f32⟩
  | 42 => ⟨S2x4096x3, .f32⟩
  | 43 => ⟨S2x4096x3, .f32⟩
  | 44 => ⟨S2x4096x3, .f32⟩
  | 45 => ⟨S_, .f32⟩
  | 46 => ⟨S2x4096x3, .f32⟩
  | 47 => ⟨S2x4096x3, .f32⟩
  | 48 => ⟨S2x4096x3, .f32⟩
  | 49 => ⟨S_, .f32⟩
  | 50 => ⟨S2x4096x3, .f32⟩
  | 51 => ⟨S2x4096x3, .f32⟩
  | 52 => ⟨S2x4096x3, .f32⟩
  | 53 => ⟨S2x4096x24, .f32⟩
  | 54 => ⟨S2x4096x3, .f32⟩
  | 55 => ⟨S_, .f32⟩
  | 56 => ⟨S2x4096, .f32⟩
  | 57 => ⟨S2x4096x1, .f32⟩
  | 58 => ⟨S2x1x4096, .f32⟩
  | 59 => ⟨S2x4096x4096, .f32⟩
  | 60 => ⟨S2x4096x4096, .f32⟩
  | 61 => ⟨S2x4096x4096, .f32⟩
  | 62 => ⟨S2x4096x4096, .f32⟩
  | 63 => ⟨S_, .f32⟩
  | 64 => ⟨S2x4096x4096, .f32⟩
  | 65 => ⟨S2x4096x4096, .f32⟩
  | 66 => ⟨S2x4096x4096, .f32⟩
  | 67 => ⟨S2x4096x4096, .f32⟩
  | 68 => ⟨S2x4096x16, .f32⟩
  | 69 => ⟨S2x4096x16, .i32⟩
  | 70 => ⟨S_, .i32⟩
  | 71 => ⟨S2x4096x16, .i32⟩
  | 72 => ⟨S2x4096x16, .i1⟩
  | 73 => ⟨S_, .i32⟩
  | 74 => ⟨S2x4096x16, .i32⟩
  | 75 => ⟨S2x4096x16, .i32⟩
  | 76 => ⟨S2x4096x16, .i32⟩
  | 77 => ⟨S2x4096x16x1, .i32⟩
  | 78 => ⟨S2x4096x16x3, .f32⟩
  | 79 => ⟨S2x4096x1x3, .f32⟩
  | 80 => ⟨S2x4096x16x3, .f32⟩
  | 81 => ⟨S2x4096x16x3, .f32⟩
  | 82 => ⟨S_, .f32⟩
  | 83 => ⟨S2x4096x3, .f32⟩
  | 84 => ⟨S_, .f32⟩
  | 85 => ⟨S2x4096x3, .f32⟩
  | 86 => ⟨S2x4096x3, .f32⟩
  | 87 => ⟨S2x4096x1x3, .f32⟩
  | 88 => ⟨S2x4096x16x3, .f32⟩
  | 89 => ⟨S2x4096x16x3, .f32⟩
  | 90 => ⟨S2x4096x16x3, .f32⟩
  | 91 => ⟨S_, .f32⟩
  | 92 => ⟨S2x4096x16, .f32⟩
  | 93 => ⟨S2x4096x16, .f32⟩
  | 94 => ⟨S2x4096x16x3, .f32⟩
  | 95 => ⟨S_, .f32⟩
  | 96 => ⟨S2x4096x16, .f32⟩
  | 97 => ⟨S2x4096x16, .f32⟩
  | 98 => ⟨S2x4096x16x1, .f32⟩
  | 99 => ⟨S_, .f32⟩
  | 100 => ⟨S2x4096x16x1, .f32⟩
  | 101 => ⟨S2x4096x16x1, .f32⟩
  | 102 => ⟨S2x4096x16x3, .f32⟩
  | 103 => ⟨S2x4096x16x3, .f32⟩
  | 104 => ⟨S2x4096x16x16, .f32⟩
  | 105 => ⟨S_, .f32⟩
  | 106 => ⟨S2x4096, .f32⟩
  | 107 => ⟨S_, .f32⟩
  | 108 => ⟨S2x4096, .f32⟩
  | 109 => ⟨S2x4096, .f32⟩
  | 110 => ⟨S2x4096x16x1, .f32⟩
  | 111 => ⟨S2x4096x16, .f32⟩
  | 112 => ⟨S_, .f32⟩
  | 113 => ⟨S2x4096x3, .f32⟩
  | 114 => ⟨S2x4096x1x3, .f32⟩
  | 115 => ⟨S_, .f32⟩
  | 116 => ⟨S2x4096x1x3, .f32⟩
  | 117 => ⟨S2x4096x1x3, .f32⟩
  | 118 => ⟨S2x4096x16x3, .f32⟩
  | 119 => ⟨S2x4096x16x3, .f32⟩
  | 120 => ⟨S2x4096x16x3, .f32⟩
  | 121 => ⟨S_, .f32⟩
  | 122 => ⟨S2x4096x3, .f32⟩
  | 123 => ⟨S_, .f32⟩
  | 124 => ⟨S2x4096x3, .f32⟩
  | 125 => ⟨S2x4096x3, .f32⟩
  | 126 => ⟨S2x4096x3, .f32⟩
  | 127 => ⟨S2x4096x3, .f32⟩
  | _ => ⟨S2x128x4096, .f32⟩

abbrev hbmTy0_1 (i : Nat) : BufTy := match i % 128 with
  | 0 => ⟨S_, .f32⟩
  | 1 => ⟨S2x4096, .f32⟩
  | 2 => ⟨S2x4096, .f32⟩
  | 3 => ⟨S_, .f32⟩
  | 4 => ⟨S2x4096, .f32⟩
  | 5 => ⟨S_, .f32⟩
  | 6 => ⟨S2x4096, .f32⟩
  | 7 => ⟨S_, .f32⟩
  | 8 => ⟨S2x4096, .f32⟩
  | 9 => ⟨S2x4096, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S2x4096x16, .f32⟩
  | 17 => ⟨S2x4096x16, .f32⟩
  | 18 => ⟨S2x4096x16, .f32⟩
  | 19 => ⟨S_, .f32⟩
  | 20 => ⟨S2x4096, .f32⟩
  | 21 => ⟨S_, .f32⟩
  | 22 => ⟨S2x4096, .f32⟩
  | 23 => ⟨S2x4096, .f32⟩
  | 24 => ⟨S2x4096, .f32⟩
  | 25 => ⟨S_, .f32⟩
  | 26 => ⟨S2x4096, .f32⟩
  | 27 => ⟨S2x4096x1, .f32⟩
  | 28 => ⟨S_, .f32⟩
  | 29 => ⟨S2x4096x1, .f32⟩
  | 30 => ⟨S2x4096x1, .f32⟩
  | 31 => ⟨S2x4096x16, .f32⟩
  | 32 => ⟨S2x4096x16, .f32⟩
  | 33 => ⟨S2x4096x16, .f32⟩
  | 34 => ⟨S_, .f32⟩
  | 35 => ⟨S2x4096, .f32⟩
  | 36 => ⟨S_, .f32⟩
  | 37 => ⟨S2x4096, .f32⟩
  | 38 => ⟨S2x4096, .f32⟩
  | 39 => ⟨S2x4096, .f32⟩
  | 40 => ⟨S_, .f32⟩
  | 41 => ⟨S2x4096, .f32⟩
  | 42 => ⟨S_, .f32⟩
  | 43 => ⟨S2x4096, .f32⟩
  | 44 => ⟨S2x4096, .f32⟩
  | 45 => ⟨S2x4096x1, .f32⟩
  | 46 => ⟨S2x4096, .f32⟩
  | 47 => ⟨S2x4096x1, .f32⟩
  | 48 => ⟨S2x4096, .f32⟩
  | 49 => ⟨S2x4096x1, .f32⟩
  | 50 => ⟨S2x4096, .f32⟩
  | 51 => ⟨S2x4096x1, .f32⟩
  | 52 => ⟨S2x4096x1, .f32⟩
  | 53 => ⟨S2x4096x1, .f32⟩
  | 54 => ⟨S2x4096x1, .f32⟩
  | 55 => ⟨S2x4096x1, .f32⟩
  | 56 => ⟨S2x4096x1, .f32⟩
  | 57 => ⟨S2x4096x1, .f32⟩
  | 58 => ⟨S2x4096x1, .f32⟩
  | 59 => ⟨S2x4096x1, .f32⟩
  | 60 => ⟨S2x4096x1, .f32⟩
  | 61 => ⟨S2x4096x10, .f32⟩
  | 62 => ⟨S2x4096x1x24, .f32⟩
  | 63 => ⟨S2x4096x16x24, .f32⟩
  | 64 => ⟨S_, .f32⟩
  | 65 => ⟨S2x4096x16x3, .f32⟩
  | 66 => ⟨S2x4096x1x10, .f32⟩
  | 67 => ⟨S2x4096x16x10, .f32⟩
  | 68 => ⟨S2x4096x16x40, .f32⟩
  | 69 => ⟨S2x40x4096x16, .f32⟩
  | 70 => ⟨S2x4096x16x16, .f32⟩
  | 71 => ⟨S2x16x4096x16, .f32⟩
  | 72 => ⟨S1x16x1x1, .f32⟩
  | 73 => ⟨S2x16x4096x16, .f32⟩
  | 74 => ⟨S2x16x4096x16, .f32⟩
  | 75 => ⟨S_, .f32⟩
  | 76 => ⟨S16, .f32⟩
  | 77 => ⟨S_, .f32⟩
  | 78 => ⟨S16, .f32⟩
  | 79 => ⟨S16, .f32⟩
  | 80 => ⟨S1x16x1x1, .f32⟩
  | 81 => ⟨S2x16x4096x16, .f32⟩
  | 82 => ⟨S2x16x4096x16, .f32⟩
  | 83 => ⟨S2x16x4096x16, .f32⟩
  | 84 => ⟨S_, .f32⟩
  | 85 => ⟨S16, .f32⟩
  | 86 => ⟨S_, .f32⟩
  | 87 => ⟨S16, .f32⟩
  | 88 => ⟨S16, .f32⟩
  | 89 => ⟨S1x16x1x1, .f32⟩
  | 90 => ⟨S2x16x4096x16, .f32⟩
  | 91 => ⟨S2x16x4096x16, .f32⟩
  | 92 => ⟨S_, .f32⟩
  | 93 => ⟨S1x16x1x1, .f32⟩
  | 94 => ⟨S1x16x1x1, .f32⟩
  | 95 => ⟨S1x16x1x1, .f32⟩
  | 96 => ⟨S2x16x4096x16, .f32⟩
  | 97 => ⟨S2x16x4096x16, .f32⟩
  | 98 => ⟨S1x16x1x1, .f32⟩
  | 99 => ⟨S2x16x4096x16, .f32⟩
  | 100 => ⟨S2x16x4096x16, .f32⟩
  | 101 => ⟨S1x16x1x1, .f32⟩
  | 102 => ⟨S2x16x4096x16, .f32⟩
  | 103 => ⟨S2x16x4096x16, .f32⟩
  | 104 => ⟨S_, .f32⟩
  | 105 => ⟨S2x16x4096x16, .f32⟩
  | 106 => ⟨S2x16x4096x16, .f32⟩
  | 107 => ⟨S2x4096x16x16, .f32⟩
  | 108 => ⟨S2x16x4096x16, .f32⟩
  | 109 => ⟨S1x16x1x1, .f32⟩
  | 110 => ⟨S2x16x4096x16, .f32⟩
  | 111 => ⟨S2x16x4096x16, .f32⟩
  | 112 => ⟨S_, .f32⟩
  | 113 => ⟨S2x16x4096, .f32⟩
  | 114 => ⟨S2x144x4096, .f32⟩
  | 115 => ⟨S2x4096x128, .f32⟩
  | 116 => ⟨S2x128x4096, .f32⟩
  | 117 => ⟨S1x128x1, .f32⟩
  | 118 => ⟨S2x128x4096, .f32⟩
  | 119 => ⟨S2x128x4096, .f32⟩
  | 120 => ⟨S_, .f32⟩
  | 121 => ⟨S128, .f32⟩
  | 122 => ⟨S_, .f32⟩
  | 123 => ⟨S128, .f32⟩
  | 124 => ⟨S128, .f32⟩
  | 125 => ⟨S1x128x1, .f32⟩
  | 126 => ⟨S2x128x4096, .f32⟩
  | 127 => ⟨S2x128x4096, .f32⟩
  | _ => ⟨S2x128x4096, .f32⟩

abbrev hbmTy0_2 (i : Nat) : BufTy := match i % 128 with
  | 0 => ⟨S2x128x4096, .f32⟩
  | 1 => ⟨S_, .f32⟩
  | 2 => ⟨S128, .f32⟩
  | 3 => ⟨S_, .f32⟩
  | 4 => ⟨S128, .f32⟩
  | 5 => ⟨S128, .f32⟩
  | 6 => ⟨S1x128x1, .f32⟩
  | 7 => ⟨S2x128x4096, .f32⟩
  | 8 => ⟨S2x128x4096, .f32⟩
  | 9 => ⟨S_, .f32⟩
  | 10 => ⟨S1x128x1, .f32⟩
  | 11 => ⟨S1x128x1, .f32⟩
  | 12 => ⟨S1x128x1, .f32⟩
  | 13 => ⟨S2x128x4096, .f32⟩
  | 14 => ⟨S2x128x4096, .f32⟩
  | 15 => ⟨S1x128x1, .f32⟩
  | 16 => ⟨S2x128x4096, .f32⟩
  | 17 => ⟨S2x128x4096, .f32⟩
  | 18 => ⟨S1x128x1, .f32⟩
  | 19 => ⟨S2x128x4096, .f32⟩
  | 20 => ⟨S2x128x4096, .f32⟩
  | 21 => ⟨S_, .f32⟩
  | 22 => ⟨S2x128x4096, .f32⟩
  | 23 => ⟨S2x128x4096, .f32⟩
  | 24 => ⟨S2x4096x128, .f32⟩
  | 25 => ⟨S2x128x4096, .f32⟩
  | 26 => ⟨S1x128x1, .f32⟩
  | 27 => ⟨S2x128x4096, .f32⟩
  | 28 => ⟨S2x128x4096, .f32⟩
  | _ => ⟨S2x128x4096, .f32⟩

abbrev hbmTy (i : Nat) : BufTy := match i / 128 with
  | 0 => hbmTy0_0 i
  | 1 => hbmTy0_1 i
  | 2 => hbmTy0_2 i
  | _ => ⟨S2x128x4096, .f32⟩

abbrev bufTy : (tb : Table) → Fin (tcTables nBuf tb) → BufTy
  | .hbm, ⟨i, _⟩ => hbmTy i
  | _, _ => ⟨S2x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_values : Ref sig .tc := ⟨.hbm, 68, rfl⟩
abbrev main_indices : Ref sig .tc := ⟨.hbm, 69, rfl⟩
abbrev main_c : Ref sig .tc := ⟨.hbm, 70, rfl⟩
abbrev main_v42 : Ref sig .tc := ⟨.hbm, 71, rfl⟩
abbrev main_v43 : Ref sig .tc := ⟨.hbm, 72, rfl⟩
abbrev main_c_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_17 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_19 : Ref sig .tc := ⟨.hbm, 112, rfl⟩
abbrev main_v75 : Ref sig .tc := ⟨.hbm, 113, rfl⟩
abbrev main_v76 : Ref sig .tc := ⟨.hbm, 114, rfl⟩
abbrev main_cst_20 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_21 : Ref sig .tc := ⟨.hbm, 121, rfl⟩
abbrev main_v82 : Ref sig .tc := ⟨.hbm, 122, rfl⟩
abbrev main_cst_22 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_23 : Ref sig .tc := ⟨.hbm, 128, rfl⟩
abbrev main_v87 : Ref sig .tc := ⟨.hbm, 129, rfl⟩
abbrev main_v88 : Ref sig .tc := ⟨.hbm, 130, rfl⟩
abbrev main_cst_24 : Ref sig .tc := ⟨.hbm, 131, rfl⟩
abbrev main_v89 : Ref sig .tc := ⟨.hbm, 132, rfl⟩
abbrev main_cst_25 : Ref sig .tc := ⟨.hbm, 133, rfl⟩
abbrev main_v90 : Ref sig .tc := ⟨.hbm, 134, rfl⟩
abbrev main_cst_26 : Ref sig .tc := ⟨.hbm, 135, rfl⟩
abbrev main_v91 : Ref sig .tc := ⟨.hbm, 136, rfl⟩
abbrev main_v92 : Ref sig .tc := ⟨.hbm, 137, rfl⟩
abbrev main_cst_27 : Ref sig .tc := ⟨.hbm, 138, rfl⟩
abbrev main_v93 : Ref sig .tc := ⟨.hbm, 139, rfl⟩
abbrev main_v94 : Ref sig .tc := ⟨.hbm, 140, rfl⟩
abbrev main_cst_28 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_29 : Ref sig .tc := ⟨.hbm, 147, rfl⟩
abbrev main_v100 : Ref sig .tc := ⟨.hbm, 148, rfl⟩
abbrev main_cst_30 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_31 : Ref sig .tc := ⟨.hbm, 153, rfl⟩
abbrev main_v104 : Ref sig .tc := ⟨.hbm, 154, rfl⟩
abbrev main_v105 : Ref sig .tc := ⟨.hbm, 155, rfl⟩
abbrev main_cst_32 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_33 : Ref sig .tc := ⟨.hbm, 162, rfl⟩
abbrev main_v111 : Ref sig .tc := ⟨.hbm, 163, rfl⟩
abbrev main_cst_34 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_35 : Ref sig .tc := ⟨.hbm, 168, rfl⟩
abbrev main_v115 : Ref sig .tc := ⟨.hbm, 169, rfl⟩
abbrev main_cst_36 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_37 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_38 : Ref sig .tc := ⟨.hbm, 203, rfl⟩
abbrev main_v147 : Ref sig .tc := ⟨.hbm, 204, rfl⟩
abbrev main_cst_39 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_40 : Ref sig .tc := ⟨.hbm, 212, rfl⟩
abbrev main_v154 : Ref sig .tc := ⟨.hbm, 213, rfl⟩
abbrev main_cst_41 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_cst_42 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_43 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_44 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_45 : Ref sig .tc := ⟨.hbm, 248, rfl⟩
abbrev main_v185 : Ref sig .tc := ⟨.hbm, 249, rfl⟩
abbrev main_cst_46 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_cst_47 : Ref sig .tc := ⟨.hbm, 257, rfl⟩
abbrev main_v192 : Ref sig .tc := ⟨.hbm, 258, rfl⟩
abbrev main_cst_48 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_cst_49 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_cst_50 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩

abbrev nD : Nat := 1
abbrev τ : Topo := Topo.v7x

variable {F : FTy → Type} [FloatOps F]
-- ==== Proof.Ops.lean ====
module

public import Idealize.ShloMosaic.PureOps.Ideal.Laws
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost

@[expose] public section

noncomputable section

/-! Arithmetic shared by the three launches: the scale and the shift of a batch normalisation computed from the sum and
the sum of squares, and operations read at an index. -/

namespace Cert.Pf

open Idealize.ShloMosaic Idealize.ShloMosaic.ValueIdx

/-- The value of the pattern the kernel adds to a variance. -/
def epsBn : EReal := Ideal.ofBits .f32 0x3727C5AC#32

/-- The mean, from a sum and the number of its terms. -/
def mom (cnt s : EReal) : EReal := Ideal.div s cnt

/-- The variance as the mean square less the squared mean. -/
def momVar (cnt s q : EReal) : EReal := Ideal.div q cnt - mom cnt s * mom cnt s

/-- The factor of the normalisation. -/
def bnA (cnt s q g : EReal) : EReal := g * Ideal.rsqrt (momVar cnt s q + epsBn)

/-- The shift of the normalisation. -/
def bnC (cnt s q g be : EReal) : EReal := be - mom cnt s * bnA cnt s q g

section
variable {s : Shape} {φ : FTy}
theorem rsqrt_at (a : FVec Ideal s φ) (i : s.Idx) : rsqrt a i = Ideal.rsqrt (a i) := rfl
theorem sqrt_at (a : FVec Ideal s φ) (i : s.Idx) : sqrt a i = Ideal.sqrt (a i) := rfl
theorem splat_at (b : BitVec 32) (i : s.Idx) : broadcast s (Scalar.ofBits (F := Ideal) .f32 b) i = Ideal.ofBits .f32 b := rfl
end

theorem zero2 : (![0, 0] : Fin 2 → Nat) = fun _ => 0 := funext fun a => by fin_cases a <;> rfl
theorem zero3 : (![0, 0, 0] : Fin 3 → Nat) = fun _ => 0 := funext fun a => by fin_cases a <;> rfl

/-- The greatest of finitely many, the last taken off. -/
theorem sup_castSucc {n : Nat} (f : Fin (n + 1) → EReal) :
    Finset.univ.sup f = max (Finset.univ.sup fun i : Fin n => f i.castSucc) (f (Fin.last n)) := by
  refine le_antisymm (Finset.sup_le fun i _ => ?_) (max_le (Finset.sup_le fun i _ => ?_) (Finset.le_sup (Finset.mem_univ _)))
  · refine Fin.lastCases ?_ (fun k => ?_) i
    · exact le_max_right _ _
    · exact le_max_of_le_left (Finset.le_sup (f := fun i : Fin n => f i.castSucc) (Finset.mem_univ k))
  · exact Finset.le_sup (f := f) (Finset.mem_univ _)

/-- The greatest of sixteen, spelt out. -/
theorem sup16 (f : Fin 16 → EReal) : Finset.univ.sup f =
    max (max (max (max (max (max (max (max (max (max (max (max (max (max (max (f 0) (f 1)) (f 2)) (f 3)) (f 4)) (f 5)) (f 6)) (f 7)) (f 8))
      (f 9)) (f 10)) (f 11)) (f 12)) (f 13)) (f 14)) (f 15) := by
  simp only [sup_castSucc, Finset.univ_eq_empty, Finset.sup_empty, bot_sup_eq]
  rfl

/-- The sum of sixteen, spelt out. -/
theorem sum16 (f : Fin 16 → EReal) : ∑ k, f k =
    f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

end Cert.Pf

end

end
-- ==== Proof.Model.lean ====
module

public import proofs.«01_k».proof.Proof.Ops

@[expose] public section

noncomputable section

/-! The position features of one point: from its coordinates and its sixteen nearest neighbours' offsets. -/

namespace Cert.Pf

open Idealize.ShloMosaic

/-- The number of neighbours, one less, and its square; the guard of a division. -/
def c16 : EReal := Ideal.ofBits .f32 0x41800000#32
def c15 : EReal := Ideal.ofBits .f32 0x41700000#32
def c256 : EReal := Ideal.ofBits .f32 0x43800000#32
def e8 : EReal := Ideal.ofBits .f32 0x322BCC77#32

/-- The mean, the variance and the deviation of sixteen numbers. -/
def mean (f : Fin 16 → EReal) : EReal := Ideal.div (∑ k, f k) c16
def vari (f : Fin 16 → EReal) : EReal := Ideal.div (∑ k, (f k - mean f) * (f k - mean f)) c15
def devi (f : Fin 16 → EReal) : EReal := Ideal.sqrt (vari f)

section
variable (p : Fin 16 → Fin 3 → EReal)

/-- The offsets' centre. -/
def ctr (d : Fin 3) : EReal := mean fun k => p k d

/-- Neighbour `k`'s distance from the centre. -/
def dist (k : Fin 16) : EReal :=
  Ideal.sqrt ((p k 0 - ctr p 0) * (p k 0 - ctr p 0) + (p k 1 - ctr p 1) * (p k 1 - ctr p 1) + (p k 2 - ctr p 2) * (p k 2 - ctr p 2))

/-- Neighbour `k`'s distance from the point. -/
def len (k : Fin 16) : EReal := Ideal.sqrt (p k 0 * p k 0 + p k 1 * p k 1 + p k 2 * p k 2)

/-- Neighbour `k`'s direction, along axis `d`. -/
def dirs (k : Fin 16) (d : Fin 3) : EReal := p k d * Ideal.div 1 (len p k + e8)

/-- The sum of the directions, along axis `d`. -/
def nsum (d : Fin 3) : EReal := ∑ k, dirs p k d

/-- The consistency of the directions, from their sum. -/
def dcons : EReal := Ideal.div (nsum p 0 * nsum p 0 + nsum p 1 * nsum p 1 + nsum p 2 * nsum p 2) c256

/-- The spread of the offsets. -/
def spread : EReal := Ideal.sqrt (vari (fun k => p k 0) + vari (fun k => p k 1) + vari (fun k => p k 2))

/-- The ten features of a neighbourhood. -/
def featS : Fin 10 → EReal :=
  ![Finset.univ.sup (dist p), mean (dist p), devi (dist p), dcons p, devi (fun k => p k 2),
    (Finset.univ.sup fun k => p k 2) - (Finset.univ.inf fun k => p k 2), ctr p 0, ctr p 1, ctr p 2, spread p]
end

/-- The least of finitely many, the last taken off. -/
theorem inf_castSucc {n : Nat} (f : Fin (n + 1) → EReal) :
    Finset.univ.inf f = min (Finset.univ.inf fun i : Fin n => f i.castSucc) (f (Fin.last n)) := by
  refine le_antisymm (le_min (Finset.le_inf fun i _ => ?_) (Finset.inf_le (Finset.mem_univ _))) (Finset.le_inf fun i _ => ?_)
  · exact Finset.inf_le (f := f) (Finset.mem_univ _)
  · refine Fin.lastCases ?_ (fun k => ?_) i
    · exact min_le_right _ _
    · exact (min_le_left _ _).trans (Finset.inf_le (f := fun i : Fin n => f i.castSucc) (Finset.mem_univ k))

/-- The least of sixteen, spelt out. -/
theorem inf16 (f : Fin 16 → EReal) : Finset.univ.inf f =
    min (min (min (min (min (min (min (min (min (min (min (min (min (min (min (f 0) (f 1)) (f 2)) (f 3)) (f 4)) (f 5)) (f 6)) (f 7)) (f 8))
      (f 9)) (f 10)) (f 11)) (f 12)) (f 13)) (f 14)) (f 15) := by
  simp only [inf_castSucc, Finset.univ_eq_empty, Finset.inf_empty, top_inf_eq]
  rfl

/-- The first thirteen of a sum of sixteen. -/
def sum13 (f : Fin 16 → EReal) : EReal := f 0 + f 1 + f 2 + f 3 + f 4 + f 5 + f 6 + f 7 + f 8 + f 9 + f 10 + f 11 + f 12

theorem sum16_13 (f : Fin 16 → EReal) : ∑ k, f k = sum13 f + f 13 + f 14 + f 15 := sum16 f

end Cert.Pf

end

end
-- ==== Proof.Feat.lean ====
module

public import Idealize.ShloMosaic.Lib.Pipeline.ValueKit.Acc
public import Idealize.ShloMosaic.Lib.Pointwise
public import proofs.«01_k».proof.Proof.Gen.KernelIdeal.Frame
public import proofs.«01_k».proof.Proof.Model

@[expose] public section

set_option maxRecDepth 16384

noncomputable section

/-! The first launch's features and first layer, from the offsets of a block's neighbours. -/

namespace Cert.KernelIdeal.Knn

open Idealize.ShloMosaic Cert.KernelIdeal Cert.KernelIdeal.Gen Cert.Pf

section
variable (R : Fin 16 → FVec Ideal S256x3 .f32)

/-- The coordinates of the neighbours' offsets. -/
def X (k : Fin 16) : FVec Ideal S256x1 .f32 := extractStridedSlice S256x1 ![0, 0] (R k) slices_S256x3_o0_0_S256x1
def Y (k : Fin 16) : FVec Ideal S256x1 .f32 := extractStridedSlice S256x1 ![0, 1] (R k) slices_S256x3_o0_1_S256x1
def Z (k : Fin 16) : FVec Ideal S256x1 .f32 := extractStridedSlice S256x1 ![0, 2] (R k) slices_S256x3_o0_2_S256x1

/-- The centre of the offsets. -/
def cX : FVec Ideal S256x1 .f32 :=
  k0_pay109 (k0_pay105 (X R 0) (X R 1) (X R 2) (X R 3) (X R 4) (X R 5) (X R 6) (X R 7) (X R 8) (X R 9) (X R 10) (X R 11) (X R 12) (X R 13) (X R 14) (X
    R 15)) k0_pay108
def cY : FVec Ideal S256x1 .f32 :=
  k0_pay110 (k0_pay106 (Y R 0) (Y R 1) (Y R 2) (Y R 3) (Y R 4) (Y R 5) (Y R 6) (Y R 7) (Y R 8) (Y R 9) (Y R 10) (Y R 11) (Y R 12) (Y R 13) (Y R 14) (Y
    R 15))
def cZ : FVec Ideal S256x1 .f32 :=
  k0_pay111 (k0_pay107 (R 12) (R 13) (R 14) (R 15) (Z R 0) (Z R 1) (Z R 2) (Z R 3) (Z R 4) (Z R 5) (Z R 6) (Z R 7) (Z R 8) (Z R 9) (Z R 10) (Z R 11))
/-- The features of a block of points, as the body computes them. -/
def dmaxB : FVec Ideal S256x1 .f32 :=
  k0_pay175 (X R 14) (X R 15) (Y R 14) (Y R 15) (Z R 14) (Z R 15) (cX R) (cY R) (cZ R) (k0_pay156 (k0_pay153 (Z R 0) (cZ R)) (k0_pay154 (X R 0) (cX
    R)) (k0_pay155 (Y R 0) (cY R))) (k0_pay157 (X R 1) (Y R 1) (Z R 1) (cX R) (cY R) (cZ R)) (k0_pay158 (X R 2) (Y R 2) (Z R 2) (cX R) (cY R) (cZ R))
    (k0_pay159 (X R 3) (Y R 3) (Z R 3) (cX R) (cY R) (cZ R)) (k0_pay160 (X R 4) (Y R 4) (Z R 4) (cX R) (cY R) (cZ R)) (k0_pay161 (X R 5) (Y R 5) (Z R
    5) (cX R) (cY R) (cZ R)) (k0_pay162 (X R 6) (Y R 6) (Z R 6) (cX R) (cY R) (cZ R)) (k0_pay165 (Z R 7) (cZ R) (k0_pay163 (X R 7) (cX R)) (k0_pay164
    (Y R 7) (cY R))) (k0_pay166 (X R 8) (Y R 8) (Z R 8) (cX R) (cY R) (cZ R)) (k0_pay167 (X R 9) (Y R 9) (Z R 9) (cX R) (cY R) (cZ R)) (k0_pay168 (X R
    10) (Y R 10) (Z R 10) (cX R) (cY R) (cZ R)) (k0_pay169 (X R 11) (Y R 11) (Z R 11) (cX R) (cY R) (cZ R)) (k0_pay170 (X R 12) (Y R 12) (Z R 12) (cX
    R) (cY R) (cZ R)) (k0_pay171 (X R 13) (Y R 13) (Z R 13) (cX R) (cY R) (cZ R))
def dmeanB : FVec Ideal S256x1 .f32 :=
  k0_pay176 (X R 14) (X R 15) (Y R 14) (Y R 15) (Z R 14) (Z R 15) (cX R) (cY R) (cZ R) (k0_pay156 (k0_pay153 (Z R 0) (cZ R)) (k0_pay154 (X R 0) (cX
    R)) (k0_pay155 (Y R 0) (cY R))) (k0_pay157 (X R 1) (Y R 1) (Z R 1) (cX R) (cY R) (cZ R)) (k0_pay158 (X R 2) (Y R 2) (Z R 2) (cX R) (cY R) (cZ R))
    (k0_pay159 (X R 3) (Y R 3) (Z R 3) (cX R) (cY R) (cZ R)) (k0_pay160 (X R 4) (Y R 4) (Z R 4) (cX R) (cY R) (cZ R)) (k0_pay161 (X R 5) (Y R 5) (Z R
    5) (cX R) (cY R) (cZ R)) (k0_pay162 (X R 6) (Y R 6) (Z R 6) (cX R) (cY R) (cZ R)) (k0_pay165 (Z R 7) (cZ R) (k0_pay163 (X R 7) (cX R)) (k0_pay164
    (Y R 7) (cY R))) (k0_pay166 (X R 8) (Y R 8) (Z R 8) (cX R) (cY R) (cZ R)) (k0_pay167 (X R 9) (Y R 9) (Z R 9) (cX R) (cY R) (cZ R)) (k0_pay168 (X R
    10) (Y R 10) (Z R 10) (cX R) (cY R) (cZ R)) (k0_pay169 (X R 11) (Y R 11) (Z R 11) (cX R) (cY R) (cZ R)) (k0_pay170 (X R 12) (Y R 12) (Z R 12) (cX
    R) (cY R) (cZ R)) (k0_pay171 (X R 13) (Y R 13) (Z R 13) (cX R) (cY R) (cZ R))
def dstdB : FVec Ideal S256x1 .f32 :=
  k0_pay178 (k0_pay157 (X R 1) (Y R 1) (Z R 1) (cX R) (cY R) (cZ R)) (k0_pay158 (X R 2) (Y R 2) (Z R 2) (cX R) (cY R) (cZ R)) (k0_pay159 (X R 3) (Y R
    3) (Z R 3) (cX R) (cY R) (cZ R)) (k0_pay160 (X R 4) (Y R 4) (Z R 4) (cX R) (cY R) (cZ R)) (k0_pay161 (X R 5) (Y R 5) (Z R 5) (cX R) (cY R) (cZ R))
    (k0_pay162 (X R 6) (Y R 6) (Z R 6) (cX R) (cY R) (cZ R)) (k0_pay165 (Z R 7) (cZ R) (k0_pay163 (X R 7) (cX R)) (k0_pay164 (Y R 7) (cY R)))
    (k0_pay166 (X R 8) (Y R 8) (Z R 8) (cX R) (cY R) (cZ R)) (k0_pay167 (X R 9) (Y R 9) (Z R 9) (cX R) (cY R) (cZ R)) (k0_pay168 (X R 10) (Y R 10) (Z
    R 10) (cX R) (cY R) (cZ R)) (k0_pay169 (X R 11) (Y R 11) (Z R 11) (cX R) (cY R) (cZ R)) (k0_pay170 (X R 12) (Y R 12) (Z R 12) (cX R) (cY R) (cZ
    R)) (k0_pay172 (k0_pay171 (X R 13) (Y R 13) (Z R 13) (cX R) (cY R) (cZ R))) (k0_pay173 (X R 14) (Y R 14) (Z R 14) (cX R) (cY R) (cZ R)) (k0_pay174
    (X R 15) (Y R 15) (Z R 15) (cX R) (cY R) (cZ R)) (dmeanB R) (k0_pay177 (X R 14) (X R 15) (Y R 14) (Y R 15) (Z R 14) (Z R 15) (cX R) (cY R) (cZ R)
    (k0_pay156 (k0_pay153 (Z R 0) (cZ R)) (k0_pay154 (X R 0) (cX R)) (k0_pay155 (Y R 0) (cY R))) (k0_pay157 (X R 1) (Y R 1) (Z R 1) (cX R) (cY R) (cZ
    R)) (k0_pay158 (X R 2) (Y R 2) (Z R 2) (cX R) (cY R) (cZ R)) (k0_pay159 (X R 3) (Y R 3) (Z R 3) (cX R) (cY R) (cZ R)) (k0_pay160 (X R 4) (Y R 4)
    (Z R 4) (cX R) (cY R) (cZ R)) (k0_pay161 (X R 5) (Y R 5) (Z R 5) (cX R) (cY R) (cZ R)) (k0_pay162 (X R 6) (Y R 6) (Z R 6) (cX R) (cY R) (cZ R))
    (k0_pay165 (Z R 7) (cZ R) (k0_pay163 (X R 7) (cX R)) (k0_pay164 (Y R 7) (cY R))) (k0_pay166 (X R 8) (Y R 8) (Z R 8) (cX R) (cY R) (cZ R))
    (k0_pay167 (X R 9) (Y R 9) (Z R 9) (cX R) (cY R) (cZ R)) (k0_pay168 (X R 10) (Y R 10) (Z R 10) (cX R) (cY R) (cZ R)) (k0_pay169 (X R 11) (Y R 11)
    (Z R 11) (cX R) (cY R) (cZ R)) (k0_pay170 (X R 12) (Y R 12) (Z R 12) (cX R) (cY R) (cZ R)) (k0_pay171 (X R 13) (Y R 13) (Z R 13) (cX R) (cY R) (cZ
    R)))
def nxB : FVec Ideal S256x1 .f32 :=
  k0_pay209 (X R 10) (X R 11) (X R 12) (Y R 11) (Y R 12) (Z R 11) (Z R 12) (k0_pay202 (X R 7) (X R 8) (X R 9) (Y R 7) (Y R 8) (Y R 9) (Z R 7) (Z R 8)
    (Z R 9) (k0_pay196 (X R 3) (X R 4) (X R 5) (X R 6) (Y R 4) (Y R 5) (Y R 6) (Z R 4) (Z R 5) (Z R 6) (k0_pay186 (X R 0) (X R 1) (X R 2) (Y R 1) (Y R
    2) (Z R 1) (Z R 2) k0_pay179 (k0_pay182 (X R 0) (Y R 0) (Z R 0))) (k0_pay189 (X R 3) (Y R 3) (Z R 3)) k0_pay190)) (k0_pay205 (X R 10) (Y R 10) (Z
    R 10))
def nyB : FVec Ideal S256x1 .f32 :=
  k0_pay210 (X R 11) (X R 12) (Y R 10) (Y R 11) (Y R 12) (Z R 11) (Z R 12) (k0_pay203 (X R 7) (X R 8) (X R 9) (Y R 7) (Y R 8) (Y R 9) (Z R 7) (Z R 8)
    (Z R 9) (k0_pay197 (X R 4) (X R 5) (X R 6) (Y R 3) (Y R 4) (Y R 5) (Y R 6) (Z R 4) (Z R 5) (Z R 6) (k0_pay187 (X R 1) (X R 2) (Y R 0) (Y R 1) (Y R
    2) (Z R 1) (Z R 2) k0_pay180 (k0_pay182 (X R 0) (Y R 0) (Z R 0))) (k0_pay189 (X R 3) (Y R 3) (Z R 3)) k0_pay190)) (k0_pay205 (X R 10) (Y R 10) (Z
    R 10))
def nzB : FVec Ideal S256x1 .f32 :=
  k0_pay211 (X R 11) (X R 12) (Y R 11) (Y R 12) (Z R 10) (Z R 11) (Z R 12) (k0_pay204 (X R 7) (X R 8) (X R 9) (Y R 7) (Y R 8) (Y R 9) (Z R 7) (Z R 8)
    (Z R 9) (k0_pay194 (X R 4) (X R 5) (Y R 4) (Y R 5) (Z R 3) (Z R 4) (Z R 5) (k0_pay188 (X R 1) (X R 2) (Y R 1) (Y R 2) (Z R 0) (Z R 1) (Z R 2)
    k0_pay181 (k0_pay182 (X R 0) (Y R 0) (Z R 0))) (k0_pay189 (X R 3) (Y R 3) (Z R 3)) k0_pay190) (k0_pay198 (X R 6) (Y R 6) (Z R 6))) (k0_pay205 (X R
    10) (Y R 10) (Z R 10))
def dconsB : FVec Ideal S256x1 .f32 :=
  k0_pay214 (X R 13) (X R 14) (X R 15) (Y R 13) (Y R 14) (Y R 15) (Z R 13) (Z R 14) (Z R 15) (nxB R) (nyB R) (nzB R) (k0_pay212 (X R 13) (Y R 13) (Z R
    13)) k0_pay213
def zstdB : FVec Ideal S256x1 .f32 :=
  k0_pay217 (Z R 3) (Z R 4) (Z R 5) (Z R 6) (Z R 7) (Z R 8) (Z R 9) (Z R 10) (Z R 11) (Z R 12) (Z R 13) (Z R 14) (Z R 15) (cZ R) (k0_pay215 (Z R 0) (Z
    R 1) (cZ R)) (k0_pay216 (Z R 2) (cZ R))
def zrangeB : FVec Ideal S256x1 .f32 :=
  k0_pay219 (Z R 0) (Z R 1) (Z R 2) (Z R 3) (Z R 4) (Z R 5) (Z R 6) (Z R 7) (Z R 8) (Z R 9) (Z R 10) (Z R 11) (Z R 12) (Z R 13) (Z R 14) (Z R 15)
    (k0_pay218 (Z R 0) (Z R 1) (Z R 2) (Z R 3) (Z R 4) (Z R 5) (Z R 6) (Z R 7) (Z R 8) (Z R 9) (Z R 10) (Z R 11) (Z R 12) (Z R 13) (Z R 14) (Z R 15))
def vxB : FVec Ideal S256x1 .f32 :=
  k0_pay221 (X R 14) (X R 15) (cX R) (k0_pay220 (X R 0) (X R 1) (X R 2) (X R 3) (X R 4) (X R 5) (X R 6) (X R 7) (X R 8) (X R 9) (X R 10) (X R 11) (X R
    12) (X R 13) (cX R))
def vyB : FVec Ideal S256x1 .f32 :=
  k0_pay222 (Y R 0) (Y R 1) (Y R 2) (Y R 3) (Y R 4) (Y R 5) (Y R 6) (Y R 7) (Y R 8) (Y R 9) (Y R 10) (Y R 11) (Y R 12) (Y R 13) (Y R 14) (Y R 15) (cY
    R)
variable (E0 E1 E2 : FVec Ideal S256x1 .f32)

/-- The thirteen features side by side. -/
def featB : FVec Ideal S256x13 .f32 :=
  k0_pay223 (Z R 0) (Z R 1) (Z R 2) (Z R 3) (Z R 4) (Z R 5) (Z R 6) (Z R 7) (Z R 8) (Z R 9) (Z R 10) (Z R 11) (Z R 12) (Z R 13) (Z R 14) (Z R 15) (cX
    R) (cY R) (cZ R) E0 E1 E2 (dmaxB R) (dmeanB R) (dstdB R) (dconsB R) (zstdB R) (zrangeB R) (vxB R) (vyB R) (Scalar.ofBits .f32 0x41700000#32)
variable (xb : FVec Ideal S256x3 .f32) (w : Vec Ideal S40x16 .f32) (b : Vec Ideal S1x16 .f32)

/-- The part of the first layer that the neighbours share. -/
def baseB : FVec Ideal S256x16 .f32 :=
  k0_pay226 (featB R E0 E1 E2) (k0_pay224 xb) w b
/-- The sums over a block, of the first layer and of its squares. -/
def sumB : FVec Ideal S1x16 .f32 :=
  k0_pay256 (k0_pay252 (R 11) (R 12) (R 13) (R 14) (baseB R E0 E1 E2 xb w b) (k0_pay227 w) (k0_pay244 (R 6) (R 7) (R 8) (R 9) (baseB R E0 E1 E2 xb w
    b) (k0_pay227 w) (k0_pay236 (R 1) (R 2) (R 3) (R 4) (baseB R E0 E1 E2 xb w b) (k0_pay227 w) k0_pay228 (k0_pay231 (R 0) (featB R E0 E1 E2)
    (k0_pay224 xb) w b)) (k0_pay239 (R 5) (baseB R E0 E1 E2 xb w b) (k0_pay227 w))) (k0_pay247 (R 10) (baseB R E0 E1 E2 xb w b) (k0_pay227 w)))
    (k0_pay255 (R 15) (baseB R E0 E1 E2 xb w b) (k0_pay227 w))
def sqB : FVec Ideal S1x16 .f32 :=
  k0_pay257 (k0_pay253 (R 11) (R 12) (R 13) (R 14) (baseB R E0 E1 E2 xb w b) (k0_pay227 w) (k0_pay245 (R 6) (R 7) (R 8) (R 9) (baseB R E0 E1 E2 xb w
    b) (k0_pay227 w) (k0_pay237 (R 1) (R 2) (R 3) (R 4) (baseB R E0 E1 E2 xb w b) (k0_pay227 w) k0_pay229 (k0_pay230 (R 0) (featB R E0 E1 E2)
    (k0_pay224 xb) w b)) (k0_pay238 (R 5) (baseB R E0 E1 E2 xb w b) (k0_pay227 w))) (k0_pay246 (R 10) (baseB R E0 E1 E2 xb w b) (k0_pay227 w)))
    (k0_pay254 (R 15) (baseB R E0 E1 E2 xb w b) (k0_pay227 w))
/-- The first layer of a block. -/
def h1B : FVec Ideal S1x256x256 .f32 :=
  k0_pay258 (k0_pay230 (R 0) (featB R E0 E1 E2) (k0_pay224 xb) w b) (k0_pay232 (R 1) (baseB R E0 E1 E2 xb w b) (k0_pay227 w)) (k0_pay233 (R 2) (baseB
    R E0 E1 E2 xb w b) (k0_pay227 w)) (k0_pay234 (R 3) (baseB R E0 E1 E2 xb w b) (k0_pay227 w)) (k0_pay235 (R 4) (baseB R E0 E1 E2 xb w b) (k0_pay227
    w)) (k0_pay238 (R 5) (baseB R E0 E1 E2 xb w b) (k0_pay227 w)) (k0_pay240 (R 6) (baseB R E0 E1 E2 xb w b) (k0_pay227 w)) (k0_pay241 (R 7) (baseB R
    E0 E1 E2 xb w b) (k0_pay227 w)) (k0_pay242 (R 8) (baseB R E0 E1 E2 xb w b) (k0_pay227 w)) (k0_pay243 (R 9) (baseB R E0 E1 E2 xb w b) (k0_pay227
    w)) (k0_pay246 (R 10) (baseB R E0 E1 E2 xb w b) (k0_pay227 w)) (k0_pay248 (R 11) (baseB R E0 E1 E2 xb w b) (k0_pay227 w)) (k0_pay249 (R 12) (baseB
    R E0 E1 E2 xb w b) (k0_pay227 w)) (k0_pay250 (R 13) (baseB R E0 E1 E2 xb w b) (k0_pay227 w)) (k0_pay251 (R 14) (baseB R E0 E1 E2 xb w b)
    (k0_pay227 w)) (k0_pay254 (R 15) (baseB R E0 E1 E2 xb w b) (k0_pay227 w))

/-- The offsets of row `r`'s neighbours. -/
def P (r : Fin 256) (k : Fin 16) (d : Fin 3) : EReal := R k (ix2 r d)

theorem X_apply (k : Fin 16) (r : Fin 256) : X R k (ix2 r 0) = P R r k 0 := by unfold X; pointwise []; rfl
theorem Y_apply (k : Fin 16) (r : Fin 256) : Y R k (ix2 r 0) = P R r k 1 := by unfold Y; pointwise []; rfl
theorem Z_apply (k : Fin 16) (r : Fin 256) : Z R k (ix2 r 0) = P R r k 2 := by unfold Z; pointwise []; rfl

theorem cX_apply (r : Fin 256) : cX R (ix2 r 0) = ctr (P R r) 0 := by
  unfold cX ctr mean; rw [sum16]
  pointwise [k0_pay109, k0_pay105, k0_pay108, X_apply]
  rfl

theorem cY_apply (r : Fin 256) : cY R (ix2 r 0) = ctr (P R r) 1 := by
  unfold cY ctr mean; rw [sum16]
  pointwise [k0_pay110, k0_pay106, Y_apply]
  rfl

theorem cZ_apply (r : Fin 256) : cZ R (ix2 r 0) = ctr (P R r) 2 := by
  have e := fun k => Z_apply R k r
  unfold Z at e
  unfold cZ ctr mean; rw [sum16]
  pointwise [k0_pay111, k0_pay107, k0_pay101, k0_pay102, k0_pay103, k0_pay104, Z_apply, e]
  rfl

theorem dmaxB_apply (r : Fin 256) : dmaxB R (ix2 r 0) = Finset.univ.sup (dist (P R r)) := by
  unfold dmaxB; rw [sup16]
  pointwise [k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay175, k0_pay172, k0_pay173, k0_pay174, X_apply, Y_apply, Z_apply, cX_apply, cY_apply, cZ_apply]
  rfl

theorem dmeanB_apply (r : Fin 256) : dmeanB R (ix2 r 0) = mean (dist (P R r)) := by
  unfold dmeanB mean; rw [sum16]
  pointwise [k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay176, k0_pay172, k0_pay173, k0_pay174, X_apply, Y_apply, Z_apply, cX_apply, cY_apply, cZ_apply]
  rfl

theorem dstdB_apply (r : Fin 256) : dstdB R (ix2 r 0) = devi (dist (P R r)) := by
  unfold dstdB devi vari; rw [sum16]
  simp only [k0_pay177]
  rw [← dmeanB.eq_1 R]
  pointwise [k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay178, dmeanB_apply, k0_pay172, k0_pay173, k0_pay174, X_apply, Y_apply, Z_apply, cX_apply, cY_apply, cZ_apply]
  rfl

theorem nxB_apply (r : Fin 256) : nxB R (ix2 r 0) = sum13 (fun k => dirs (P R r) k 0) := by
  unfold nxB
  unfold sum13
  pointwise [k0_pay179, k0_pay182, k0_pay186, k0_pay189, k0_pay190, k0_pay196, k0_pay202, k0_pay205, k0_pay209, k0_pay183, k0_pay184, k0_pay185, k0_pay191, k0_pay192, k0_pay193, k0_pay195, k0_pay199, k0_pay200, k0_pay201, k0_pay206, k0_pay207, k0_pay208, X_apply, Y_apply, Z_apply]
  rfl

theorem nyB_apply (r : Fin 256) : nyB R (ix2 r 0) = sum13 (fun k => dirs (P R r) k 1) := by
  unfold nyB
  unfold sum13
  pointwise [k0_pay180, k0_pay182, k0_pay187, k0_pay189, k0_pay190, k0_pay197, k0_pay203, k0_pay205, k0_pay210, k0_pay183, k0_pay184, k0_pay185, k0_pay191, k0_pay192, k0_pay193, k0_pay195, k0_pay199, k0_pay200, k0_pay201, k0_pay206, k0_pay207, k0_pay208, X_apply, Y_apply, Z_apply]
  rfl

theorem nzB_apply (r : Fin 256) : nzB R (ix2 r 0) = sum13 (fun k => dirs (P R r) k 2) := by
  unfold nzB
  unfold sum13
  pointwise [k0_pay181, k0_pay182, k0_pay188, k0_pay189, k0_pay190, k0_pay194, k0_pay198, k0_pay204, k0_pay205, k0_pay211, k0_pay183, k0_pay184, k0_pay185, k0_pay191, k0_pay192, k0_pay193, k0_pay195, k0_pay199, k0_pay200, k0_pay201, k0_pay206, k0_pay207, k0_pay208, X_apply, Y_apply, Z_apply]
  rfl

theorem dconsB_apply (r : Fin 256) : dconsB R (ix2 r 0) = dcons (P R r) := by
  unfold dconsB dcons nsum
  simp only [sum16_13]
  pointwise [k0_pay212, k0_pay213, k0_pay214, nxB_apply, nyB_apply, nzB_apply, X_apply, Y_apply, Z_apply]
  rfl

theorem zstdB_apply (r : Fin 256) : zstdB R (ix2 r 0) = devi (fun k => P R r k 2) := by
  unfold zstdB devi vari; rw [sum16]
  pointwise [k0_pay215, k0_pay216, k0_pay217, X_apply, Y_apply, Z_apply, cX_apply, cY_apply, cZ_apply]
  rfl

theorem zrangeB_apply (r : Fin 256) : zrangeB R (ix2 r 0) = (Finset.univ.sup fun k => P R r k 2) - (Finset.univ.inf fun k => P R r k 2) := by
  unfold zrangeB; rw [sup16, inf16]
  pointwise [k0_pay218, k0_pay219, X_apply, Y_apply, Z_apply, cX_apply, cY_apply, cZ_apply]

theorem vxB_apply (r : Fin 256) : vxB R (ix2 r 0) = vari (fun k => P R r k 0) := by
  unfold vxB vari; rw [sum16]
  pointwise [k0_pay220, k0_pay221, X_apply, Y_apply, Z_apply, cX_apply, cY_apply, cZ_apply]

  rfl

omit R in
/-- Thirteen columns side by side, read at a lane. -/
theorem cat13 (v : Fin 13 → FVec Ideal S256x1 .f32) (r : Fin 256) (f : Fin 13) :
    concatenate S256x13 1 [⟨S256x1, v 0⟩, ⟨S256x1, v 1⟩, ⟨S256x1, v 2⟩, ⟨S256x1, v 3⟩, ⟨S256x1, v 4⟩, ⟨S256x1, v 5⟩, ⟨S256x1, v 6⟩,
        ⟨S256x1, v 7⟩, ⟨S256x1, v 8⟩, ⟨S256x1, v 9⟩, ⟨S256x1, v 10⟩, ⟨S256x1, v 11⟩, ⟨S256x1, v 12⟩]
      concatenates_S256x1_S256x1_S256x1_S256x1_S256x1_S256x1_S256x1_S256x1_S256x1_S256x1_S256x1_S256x1_S256x1_S256x13_d1 (ix2 r f)
      = v f (ix2 r 0) :=
  concatenate_ofFn_unit_apply (t := S256x13) (s₁ := S256x1) 1 v
    concatenates_S256x1_S256x1_S256x1_S256x1_S256x1_S256x1_S256x1_S256x1_S256x1_S256x1_S256x1_S256x1_S256x1_S256x13_d1 rfl rfl (ix2 r f) f rfl (ix2 r 0)
    (fun b hb => by
      match b with
      | ⟨0, _⟩ => rfl
      | ⟨1, _⟩ => exact absurd rfl hb)

/-- The feature the body puts on lane `f` of the thirteen. -/
theorem featB_apply (r : Fin 256) (f : Fin 13) : featB R E0 E1 E2 (ix2 r f)
    = Fin.append ![E0 (ix2 r 0), E1 (ix2 r 0), E2 (ix2 r 0)] (featS (P R r)) f := by
  have e : Ideal.div (vyB R (ix2 r 0)) (Ideal.ofBits .f32 0x41700000#32) = vari (fun k => P R r k 1) := by
    unfold vyB vari; rw [sum16]
    pointwise [k0_pay222, Y_apply, cY_apply]
    rfl
  have ez : spread (P R r) = Ideal.sqrt (vari (fun k => P R r k 0) + vari (fun k => P R r k 1) + vari (fun k => P R r k 2)) := rfl
  have e2 : vari (fun k => P R r k 2) = Ideal.div (∑ k, (P R r k 2 - ctr (P R r) 2) * (P R r k 2 - ctr (P R r) 2)) c15 := rfl
  rw [sum16] at e2
  refine (cat13 ![E0, E1, E2, dmaxB R, dmeanB R, dstdB R, dconsB R, zstdB R, zrangeB R, cX R, cY R, cZ R, _] r f).trans ?_
  match f with
  | ⟨0, _⟩ => rfl
  | ⟨1, _⟩ => rfl
  | ⟨2, _⟩ => rfl
  | ⟨3, _⟩ => exact dmaxB_apply R r
  | ⟨4, _⟩ => exact dmeanB_apply R r
  | ⟨5, _⟩ => exact dstdB_apply R r
  | ⟨6, _⟩ => exact dconsB_apply R r
  | ⟨7, _⟩ => exact zstdB_apply R r
  | ⟨8, _⟩ => exact zrangeB_apply R r
  | ⟨9, _⟩ => exact cX_apply R r
  | ⟨10, _⟩ => exact cY_apply R r
  | ⟨11, _⟩ => exact cZ_apply R r
  | ⟨12, _⟩ =>
    show _ = spread (P R r)
    rw [ez, e2]
    pointwise [vxB_apply, e, cX_apply, cY_apply, cZ_apply, Z_apply]
    rfl

/-- The encoding of a cell's corner `g`. -/
def encS (g : Fin 3 → EReal) (x : Fin 24) : EReal :=
  if h : x.val < 3 then Ideal.sin (g ⟨x.val, h⟩)
  else if h : x.val - 3 < 3 then Ideal.cos (g ⟨x.val - 3, h⟩)
  else if h : x.val - 3 - 3 < 3 then Ideal.sin (g ⟨x.val - 3 - 3, h⟩ * Ideal.ofBits .f32 0x40000000#32)
  else if h : x.val - 3 - 3 - 3 < 3 then Ideal.cos (g ⟨x.val - 3 - 3 - 3, h⟩ * Ideal.ofBits .f32 0x40000000#32)
  else if h : x.val - 3 - 3 - 3 - 3 < 3 then Ideal.sin (g ⟨x.val - 3 - 3 - 3 - 3, h⟩ * Ideal.ofBits .f32 0x40800000#32)
  else if h : x.val - 3 - 3 - 3 - 3 - 3 < 3 then Ideal.cos (g ⟨x.val - 3 - 3 - 3 - 3 - 3, h⟩ * Ideal.ofBits .f32 0x40800000#32)
  else if h : x.val - 3 - 3 - 3 - 3 - 3 - 3 < 3 then Ideal.sin (g ⟨x.val - 3 - 3 - 3 - 3 - 3 - 3, h⟩ * Ideal.ofBits .f32 0x41000000#32)
  else Ideal.cos (g ⟨x.val - 3 - 3 - 3 - 3 - 3 - 3 - 3, by omega⟩ * Ideal.ofBits .f32 0x41000000#32)

/-- The first layer at a neighbour with offset `p`, from the neighbourhood's encoding and features; the weights at the
    three features left out are zero. -/
def layer (enc : Fin 24 → EReal) (ft : Fin 10 → EReal) (p : Fin 3 → EReal) (w : Fin 40 → EReal) (b : EReal) : EReal :=
  (∑ x, enc x * w (x.castLE (by decide))) + (∑ f, ft f * w (Fin.natAdd 30 f)) + b + ∑ d, p d * w ⟨24 + d.val, by omega⟩

/-- The weights' row of left-out feature `f`. -/
def eig (f : Fin 3) : Fin 40 := ⟨27 + f.val, by omega⟩

/-- Lane `16 j + o`: channel `o` of neighbour `j`. -/
def lane (j o : Fin 16) : Fin 256 := ⟨16 * j.val + o.val, by omega⟩

variable (hw : ∀ (f : Fin 3) (o : Fin 16), w (ix2 (eig f) o) = 0)

include hw

theorem baseB_apply (r : Fin 256) (o : Fin 16) : baseB R E0 E1 E2 xb w b (ix2 r o)
    = (∑ x : Fin 24, encS (fun d => Ideal.liftRound Int.floor (xb (ix2 r d))) x * w (ix2 (x.castLE (by decide)) o))
      + (∑ f, featS (P R r) f * w (ix2 (Fin.natAdd 30 f) o)) + b (ix2 0 o) := by
  unfold baseB
  pointwise [k0_pay226, k0_pay225, k0_pay224, dot_S256x24_S24x16_S256x16_1_0_0_1_n_n, dot_S256x13_S13x16_S256x16_1_0_0_1_n_n]
  refine congrArg (· + b (ix2 0 o)) (congrArg₂ (· + ·) rfl ?_)
  simp only [featB_apply]
  refine (Fin.sum_univ_add (a := 3) (b := 10) (fun f => Fin.append ![E0 (ix2 r 0), E1 (ix2 r 0), E2 (ix2 r 0)] (featS (P R r)) f * w (ix2 ⟨27 + f.val, by omega⟩ o))).trans ?_
  rw [Finset.sum_eq_zero (fun f _ => by
    refine (congrArg (_ * ·) (hw f o)).trans (mul_zero _)), zero_add]
  refine Finset.sum_congr rfl fun f _ => ?_
  rw [Fin.append_right]
  refine congrArg (fun y => featS (P R r) f * w (ix2 y o)) (Fin.ext ?_)
  show 27 + (3 + f.val) = 30 + f.val
  omega

omit R E0 E1 E2 xb w b hw in
/-- A block under a leading axis of size one. -/
theorem cast_row (v : FVec Ideal S256x256 .f32) (r c : Fin 256) : shapeCast S1x256x256 v shapeCasts_S256x256_S1x256x256 (ix3 0 r c) = v (ix2 r c) := by
  pointwise []

/-- The first layer of row `r` at neighbour `j`, on channel `o`. -/
def hB (r : Fin 256) (j o : Fin 16) : EReal :=
  layer (encS fun d => Ideal.liftRound Int.floor (xb (ix2 r d))) (featS (P R r)) (P R r j) (fun x => w (ix2 x o)) (b (ix2 0 o))

omit hw in
theorem pay258_apply (v : Fin 16 → FVec Ideal S256x16 .f32) (r : Fin 256) (j o : Fin 16) :
    k0_pay258 (v 0) (v 1) (v 2) (v 3) (v 4) (v 5) (v 6) (v 7) (v 8) (v 9) (v 10) (v 11) (v 12) (v 13) (v 14) (v 15)
      (ix3 0 r (lane j o)) = v j (ix2 r o) := by
  exact (cast_row _ r _).trans <| concatenate_ofFn_apply (t := S256x256) (s₁ := S256x16) 1 v
    concatenates_S256x16_S256x16_S256x16_S256x16_S256x16_S256x16_S256x16_S256x16_S256x16_S256x16_S256x16_S256x16_S256x16_S256x16_S256x16_S256x16_S256x256_d1
    rfl 16 rfl _ j (by show (16 * j.val + o.val) / 16 = j.val; omega) (ix2 r o) (by show o.val = (16 * j.val + o.val) % 16; omega)
    (fun b hb => by
      match b with
      | ⟨0, _⟩ => rfl
      | ⟨1, _⟩ => exact absurd rfl hb)

/-- The first layer of a block at the neighbours with offsets `v`, from the shared part `base`. -/
def hV (base : FVec Ideal S256x16 .f32) (v : FVec Ideal S256x3 .f32) : FVec Ideal S256x16 .f32 :=
  addf base (matmul dot_S256x3_S3x16_S256x16_1_0_0_1_n_n none v (k0_pay227 w) (constant S256x16 .f32 0x00000000#32))

theorem hV_apply (r : Fin 256) (j o : Fin 16) : hV w (baseB R E0 E1 E2 xb w b) (R j) (ix2 r o) = hB R xb w b r j o := by
  have e := baseB_apply R E0 E1 E2 xb w b hw
  unfold hV hB layer
  pointwise [k0_pay227, k0_pay225, e, dot_S256x3_S3x16_S256x16_1_0_0_1_n_n]
  rfl

theorem h1B_apply (r : Fin 256) (j o : Fin 16) : h1B R E0 E1 E2 xb w b (ix3 0 r (lane j o)) = hB R xb w b r j o :=
  (pay258_apply (fun j => hV w (baseB R E0 E1 E2 xb w b) (R j)) r j o).trans (hV_apply R E0 E1 E2 xb w b hw r j o)

omit hw in
/-- A block's sum, over its rows and the sixteen neighbours. -/
theorem sumB_eq (o : Fin 16) : sumB R E0 E1 E2 xb w b (ix2 0 o) = ∑ j, ∑ r, hV w (baseB R E0 E1 E2 xb w b) (R j) (ix2 r o) := by
  have e0 : k0_pay230 (R 0) (featB R E0 E1 E2) (k0_pay224 xb) w b = hV w (baseB R E0 E1 E2 xb w b) (R 0) := rfl
  unfold sumB
  simp only [k0_pay256, k0_pay252, k0_pay244, k0_pay236, k0_pay231, k0_pay239, k0_pay247, k0_pay255, k0_pay228]
  generalize hb : baseB R E0 E1 E2 xb w b = bs at *
  rw [sum16]
  pointwise [e0, hV, k0_pay232, k0_pay233, k0_pay234, k0_pay235, k0_pay238, k0_pay240, k0_pay241, k0_pay242, k0_pay243, k0_pay246, k0_pay248, k0_pay249, k0_pay250,
    k0_pay251, k0_pay254]

omit hw in
/-- A block's sum of squares. -/
theorem sqB_eq (o : Fin 16) : sqB R E0 E1 E2 xb w b (ix2 0 o)
    = ∑ j, ∑ r, hV w (baseB R E0 E1 E2 xb w b) (R j) (ix2 r o) * hV w (baseB R E0 E1 E2 xb w b) (R j) (ix2 r o) := by
  have e0 : k0_pay230 (R 0) (featB R E0 E1 E2) (k0_pay224 xb) w b = hV w (baseB R E0 E1 E2 xb w b) (R 0) := rfl
  unfold sqB
  simp only [k0_pay257, k0_pay253, k0_pay245, k0_pay237, k0_pay229]
  generalize hb : baseB R E0 E1 E2 xb w b = bs at *
  rw [sum16]
  pointwise [e0, hV, k0_pay232, k0_pay233, k0_pay234, k0_pay235, k0_pay238, k0_pay240, k0_pay241, k0_pay242, k0_pay243, k0_pay246, k0_pay248, k0_pay249, k0_pay250,
    k0_pay251, k0_pay254]

end

end Cert.KernelIdeal.Knn

end

end
-- ==== Proof.Sel.lean ====
module

public import Idealize.ShloMosaic.Lib.Pointwise
public import Idealize.ShloMosaic.Lib.SortNet.Extract
public import proofs.«01_k».proof.Proof.Gen.KernelIdeal.Frame
public import proofs.«01_k».proof.Proof.Ops

@[expose] public section

set_option maxRecDepth 16384

noncomputable section

/-! The pick of a nearest point: the first index at which a row is least, and the offset of the point picked. -/

namespace Cert.Pf

open Idealize.ShloMosaic

/-- The first index at which a row is least. -/
def pick (f : Fin 4096 → EReal) : Fin 4096 :=
  (Finset.univ.filter fun n => ∀ m, f n ≤ f m).min' (by
    obtain ⟨n, _, h⟩ := Finset.exists_min_image Finset.univ f Finset.univ_nonempty
    exact ⟨n, Finset.mem_filter.mpr ⟨Finset.mem_univ _, fun m => h m (Finset.mem_univ _)⟩⟩)

theorem pick_le (f : Fin 4096 → EReal) (m : Fin 4096) : f (pick f) ≤ f m :=
  (Finset.mem_filter.mp (Finset.min'_mem (Finset.univ.filter fun n => ∀ m, f n ≤ f m) _)).2 m

theorem pick_first (f : Fin 4096 → EReal) (m : Fin 4096) (h : f m ≤ f (pick f)) : pick f ≤ m :=
  Finset.min'_le _ _ (Finset.mem_filter.mpr ⟨Finset.mem_univ _, fun q => h.trans (pick_le f q)⟩)

/-- An index that is least, and the first such, is the pick. -/
theorem eq_pick (f : Fin 4096 → EReal) (p : Fin 4096) (hle : ∀ m, f p ≤ f m) (hf : ∀ m, f m ≤ f p → p ≤ m) : pick f = p :=
  le_antisymm (pick_first f p (hle _)) (hf _ (pick_le f p))

/-- The row with its pick taken out. -/
def dropPick (f : Fin 4096 → EReal) : Fin 4096 → EReal := fun n => if n = pick f then ⊤ else f n

/-- The `k`-th pick. -/
def nth (f : Fin 4096 → EReal) (k : ℕ) : Fin 4096 := pick (dropPick^[k] f)

theorem fold_min_eq (f : Fin 4096 → EReal) : Finset.univ.fold min ⊤ f = f (pick f) :=
  le_antisymm (Finset.fold_min_le _ |>.mpr (Or.inr ⟨_, Finset.mem_univ _, le_refl _⟩))
    (Finset.le_fold_min _ |>.mpr ⟨le_top, fun m _ => pick_le f m⟩)

theorem fold_minsi_eq (g : Fin 4096 → BitVec 32) (z : BitVec 32) (p : Fin 4096) (hz : (g p).toInt ≤ z.toInt)
    (h : ∀ m, (g p).toInt ≤ (g m).toInt) : Finset.univ.fold IntOp.minsi z g = g p := by
  apply BitVec.eq_of_toInt_eq
  have e : (Finset.univ.fold IntOp.minsi z g).toInt = Finset.univ.fold min z.toInt (fun m => (g m).toInt) :=
    (Finset.fold_hom (op := IntOp.minsi) (op' := min) (m := BitVec.toInt) (fun x y => SortNet.toInt_minsi x y)).symm
  rw [e]
  exact le_antisymm (Finset.fold_min_le _ |>.mpr (Or.inr ⟨_, Finset.mem_univ _, le_refl _⟩))
    (Finset.le_fold_min _ |>.mpr ⟨hz, fun m _ => h m⟩)

theorem toInt_lane (n : Fin 4096) : (BitVec.ofNat 32 n.val).toInt = n.val := by
  have := n.isLt
  rw [BitVec.toInt_eq_toNat_of_lt (by simp only [BitVec.toNat_ofNat]; omega), BitVec.toNat_ofNat]; omega

end Cert.Pf

namespace Cert.KernelIdeal.Knn

open Idealize.ShloMosaic Cert.KernelIdeal Cert.KernelIdeal.Gen Cert.Pf

section
variable (L : IVec S256x4096 32) (d : FVec Ideal S256x4096 .f32)

/-- The least values of a block's rows. -/
def minV : FVec Ideal S256 .f32 := multiReduction .minimumf [1] S256 d 0x7F800000#32 reduces_S256x4096_S256 (.inl rfl) rfl

/-- The lanes (numbered by `L`) at which a block's rows are least, first ones only, as the body computes them. -/
def selV : IVec S256x4096 1 :=
  cmpi .eq L
    (broadcastTo S256x4096
      (shapeCast S256x1
        (multiReductionI .minsi [1] S256
          (select (cmpf .ole d (broadcastTo S256x4096 (shapeCast S256x1 (minV d) shapeCasts_S256_S256x1) broadcasts_S256x1_S256x4096))
            L (broadcast S256x4096 4096#32))
          2147483647#32 reduces_S256x4096_S256 rfl)
        shapeCasts_S256_S256x1)
      broadcasts_S256x1_S256x4096)

/-- The block with the picked lanes taken out. -/
def nxtV : FVec Ideal S256x4096 .f32 :=
  select (selV L d) (broadcast S256x4096 (Scalar.ofBits .f32 0x7F800000#32)) d

/-- The picked points, seen from the block's own. -/
def relV (xb : FVec Ideal S256x3 .f32) (xa : FVec Ideal S4096x3 .f32) : FVec Ideal S256x3 .f32 :=
  subf (matmul dot_S256x4096_S4096x3_S256x3_1_0_0_1_n_n none (sitofp .f32 (extui 32 (selV L d) natLt_1_32)) xa
    (constant S256x3 .f32 0x00000000#32)) xb

end

/-- The lane numbers. -/
def lanes : IVec S256x4096 32 := iota .tc S256x4096 32 [1] iota_S256x4096_d1_w32

theorem ofBits_inf : (Ideal.ofBits .f32 0x7F800000#32 : EReal) = ⊤ := by simp [Ideal.ofBits, Ideal.ieee]

theorem selV_apply (d : FVec Ideal S256x4096 .f32) (r : Fin 256) (n : Fin 4096) :
    selV lanes d (ix2 r n) = if n = pick (fun m => d (ix2 r m)) then 1#1 else 0#1 := by
  unfold selV minV lanes
  pointwise []
  simp only [ofBits_inf]
  rw [fold_min_eq]
  have hi : ∀ x : Fin 4096, (if d (ix2 r x) ≤ d (ix2 r (pick fun m => d (ix2 r m))) then BitVec.ofNat 32 x.val else 4096#32).toInt
      = if d (ix2 r x) ≤ d (ix2 r (pick fun m => d (ix2 r m))) then (x.val : ℤ) else 4096 := fun x => by
    split
    · exact toInt_lane x
    · rfl
  have hp := fold_minsi_eq (fun x => if d (ix2 r x) ≤ d (ix2 r (pick fun m => d (ix2 r m))) then BitVec.ofNat 32 x.val else 4096#32) 2147483647#32
    (pick fun m => d (ix2 r m))
    (by
      rw [hi, if_pos (le_refl _)]
      have := (pick fun m => d (ix2 r m)).isLt
      show _ ≤ (2147483647 : ℤ)
      omega)
    (fun m => by
      rw [hi, hi, if_pos (le_refl _)]
      split
      · rename_i h; exact Int.ofNat_le.mpr (pick_first (fun m => d (ix2 r m)) m h)
      · have := (pick fun m => d (ix2 r m)).isLt; omega)
  rw [hp, if_pos (le_refl _)]
  by_cases h : n = pick fun m => d (ix2 r m)
  · rw [if_pos h, ← h]
    simp [IntOp.cmpi]
  · rw [if_neg h]
    have h' : BitVec.ofNat 32 n.val ≠ BitVec.ofNat 32 (pick fun m => d (ix2 r m)).val := fun e => h (by
      have e' := congrArg BitVec.toInt e
      rw [toInt_lane, toInt_lane] at e'
      exact Fin.ext (Int.ofNat_inj.mp e'))
    show BitVec.ofBool (BitVec.ofNat 32 n.val == BitVec.ofNat 32 (pick fun m => d (ix2 r m)).val) = 0#1
    rw [beq_false_of_ne h']; rfl

theorem nxtV_apply (d : FVec Ideal S256x4096 .f32) (r : Fin 256) (n : Fin 4096) :
    nxtV lanes d (ix2 r n) = dropPick (fun m => d (ix2 r m)) n := by
  unfold nxtV dropPick
  pointwise [selV_apply]
  split
  · rw [ofBits_inf]; rfl
  · rfl

theorem relV_apply (xb : FVec Ideal S256x3 .f32) (xa : FVec Ideal S4096x3 .f32) (d : FVec Ideal S256x4096 .f32) (r : Fin 256) (e : Fin 3) :
    relV lanes d xb xa (ix2 r e) = xa (ix2 (pick fun m => d (ix2 r m)) e) - xb (ix2 r e) := by
  unfold relV
  pointwise [selV_apply, dot_S256x4096_S4096x3_S256x3_1_0_0_1_n_n]
  refine congrArg (· - xb (ix2 r e)) ?_
  rw [Finset.sum_eq_single (pick fun m => d (ix2 r m))]
  · rw [if_pos rfl]
    refine (congrArg (· * _) ?_).trans (one_mul _)
    show (((((1#1).setWidth 32 : BitVec 32).toInt : ℝ)) : EReal) = 1
    norm_num
  · intro x _ h
    rw [if_neg h]
    refine (congrArg (· * _) ?_).trans (zero_mul _)
    show (((((0#1).setWidth 32 : BitVec 32).toInt : ℝ)) : EReal) = 0
    norm_num
  · exact fun h => absurd (Finset.mem_univ _) h

end Cert.KernelIdeal.Knn

end

end
-- ==== Proof.Knn.lean ====
module

public import Idealize.ShloMosaic.Lib.Pipeline.ValueKit.Acc
public import Idealize.ShloMosaic.Lib.Pipeline.ValueKit.Geometry
public import Idealize.ShloMosaic.Lib.Pointwise
public import proofs.«01_k».proof.Proof.Gen.KernelIdeal.Frame
public import proofs.«01_k».proof.Proof.Ops
public import proofs.«01_k».proof.Proof.Model
public import proofs.«01_k».proof.Proof.Feat
public import proofs.«01_k».proof.Proof.Sel

@[expose] public section

set_option maxRecDepth 16384

noncomputable section

/-! What the first launch leaves: the first layer of every point's neighbourhood, and its sums over all of them. -/

namespace Cert.KernelIdeal.Knn

open Idealize.ShloMosaic Cert.KernelIdeal Cert.KernelIdeal.Gen Cert.Pf

section
variable (L : IVec S256x4096 32) (a d : FVec Ideal S256x4096 .f32) (s : IVec S256x4096 1) (q : IVec S256x1 32) (z : IVec S256x4096 32)

theorem sel0 (v0 : Vec Ideal S1x256x3 .f32) (v2 : Vec Ideal S1x3x4096 .f32) : k0_pay5 v0 v2 = selV lanes (k0_pay4 v0 v2) := rfl
theorem sel1 : k0_pay9 d L s = selV L (k0_pay8 d s) := rfl
theorem sel2 : k0_pay12 d L s = selV L (k0_pay11 d L s) := rfl
theorem sel3 : k0_pay15 d L s = selV L (k0_pay14 d L s) := rfl
theorem sel4 : k0_pay19 L d s = selV L (k0_pay18 d s) := rfl
theorem sel5 : k0_pay22 L d s = selV L (k0_pay21 L d s) := rfl
theorem sel6 : k0_pay26 L (k0_pay25 L d s) = selV L (k0_pay24 L d s) := rfl
theorem sel7 : k0_pay29 L d q = selV L (k0_pay28 L d q) := rfl
theorem sel8 : k0_pay32 L d q = selV L (k0_pay31 L d q) := rfl
theorem sel9 : k0_pay36 L (k0_pay35 L d q) = selV L (k0_pay34 L d q) := rfl
theorem sel10 : k0_pay39 L d z = selV L (k0_pay38 L d z) := rfl
theorem sel11 : k0_pay42 L d z = selV L (k0_pay41 L d z) := rfl
theorem sel12 : k0_pay46 L (k0_pay45 L d z) = selV L (k0_pay44 L d z) := rfl
theorem sel13 : k0_pay49 L d s = selV L (k0_pay48 L d s) := rfl
theorem sel14 : k0_pay52 L d s = selV L (k0_pay51 L d s) := rfl
theorem min15 : k0_pay55 L d s = minV (k0_pay54 L d s) := rfl
theorem rel15 (xb : FVec Ideal S256x3 .f32) (xa : FVec Ideal S4096x3 .f32) : k0_pay56 xb xa L d (minV d) = relV L d xb xa := rfl

theorem nxt_fold : select (selV L d) (broadcast S256x4096 (Scalar.ofBits .f32 0x7F800000#32)) d = nxtV L d := rfl

theorem rel_fold (xb : FVec Ideal S256x3 .f32) (xa : FVec Ideal S4096x3 .f32) :
    subf (matmul dot_S256x4096_S4096x3_S256x3_1_0_0_1_n_n none (sitofp .f32 (extui 32 (selV L d) natLt_1_32)) xa
      (constant S256x3 .f32 0x00000000#32)) xb = relV L d xb xa := rfl

end

/-- The lane numbers, under any way of writing the axis they count along. -/
theorem lanes_of (l : List (Fin 2)) (h) (hl : l = [1]) : iota .tc S256x4096 32 l h = lanes := by subst hl; rfl

/-- The squared distance of two points, as the body expands it. -/
def d2 (p q : Fin 3 → EReal) : EReal :=
  (p 0 * p 0 + p 1 * p 1 + p 2 * p 2) + (q 0 * q 0 + q 1 * q 1 + q 2 * q 2) - Ideal.ofBits .f32 0x40000000#32 * ∑ d, p d * q d

section
variable (v0 : Vec Ideal S1x256x3 .f32) (v2 : Vec Ideal S1x3x4096 .f32) (v4 : Vec Ideal S1x4096x3 .f32)

theorem xb_apply (r : Fin 256) (e : Fin 3) : k0_pay2 v0 (ix2 r e) = v0 (ix3 0 r e) := by pointwise [k0_pay2]

theorem xa_apply (m : Fin 4096) (e : Fin 3) : k0_pay3 v4 (ix2 m e) = v4 (ix3 0 m e) := by pointwise [k0_pay3]

theorem d0_apply (r : Fin 256) (m : Fin 4096) : k0_pay4 v0 v2 (ix2 r m) = d2 (fun e => v0 (ix3 0 r e)) (fun e => v2 (ix3 0 e m)) := by
  pointwise [k0_pay4, xb_apply, dot_S256x3_S3x4096_S256x4096_1_0_0_1_n_n]
  rfl

/-- The distances with the first `k` picks taken out. -/
def dK (k : ℕ) : FVec Ideal S256x4096 .f32 := (nxtV lanes)^[k] (k0_pay4 v0 v2)

/-- The offsets of a block's `k`-th neighbours, as the body computes them. -/
def rK (k : ℕ) : FVec Ideal S256x3 .f32 := relV lanes (dK v0 v2 k) (k0_pay2 v0) (k0_pay3 v4)

theorem dK_zero : k0_pay4 v0 v2 = dK v0 v2 0 := rfl
theorem dK_succ (k : ℕ) : nxtV lanes (dK v0 v2 k) = dK v0 v2 (k + 1) := (Function.iterate_succ_apply' _ _ _).symm
theorem rK_fold (k : ℕ) : relV lanes (dK v0 v2 k) (k0_pay2 v0) (k0_pay3 v4) = rK v0 v2 v4 k := rfl

/-- The offsets of a block's neighbours. -/
def relB (k : Fin 16) : FVec Ideal S256x3 .f32 := rK v0 v2 v4 k.val

theorem nxt_apply (d : FVec Ideal S256x4096 .f32) (r : Fin 256) (k : ℕ) :
    (fun m => (nxtV lanes)^[k] d (ix2 r m)) = dropPick^[k] (fun m => d (ix2 r m)) := by
  induction k with
  | zero => rfl
  | succ k ih =>
    rw [Function.iterate_succ_apply', Function.iterate_succ_apply', ← ih]
    exact funext fun m => nxtV_apply _ r m

theorem relB_apply (k : Fin 16) (r : Fin 256) (e : Fin 3) : relB v0 v2 v4 k (ix2 r e)
    = v4 (ix3 0 (nth (fun m => d2 (fun e => v0 (ix3 0 r e)) (fun e => v2 (ix3 0 e m))) k.val) e) - v0 (ix3 0 r e) := by
  unfold relB rK dK nth
  rw [relV_apply, xa_apply, xb_apply, nxt_apply]
  simp only [d0_apply]

/-- A block's sums: over the rows and neighbours in row 0, of the squares in row 1. -/
def statB (v : Fin 256 → Fin 16 → Fin 16 → EReal) (j : S2x16.Idx) : EReal :=
  if (j 0).val = 0 then ∑ k, ∑ r, v r k (j 1) else ∑ k, ∑ r, v r k (j 1) * v r k (j 1)

variable (w : Vec Ideal S40x16 .f32) (b : Vec Ideal S1x16 .f32)
variable (hw : ∀ (f : Fin 3) (o : Fin 16), w (ix2 (eig f) o) = 0)

include hw in
theorem pay1_apply (R : Fin 16 → FVec Ideal S256x3 .f32) (E0 E1 E2 : FVec Ideal S256x1 .f32) (xb : FVec Ideal S256x3 .f32)
    (acc : Vec Ideal S2x16 .f32) (j : S2x16.Idx) :
    k0_pay1 (sumB R E0 E1 E2 xb w b) (sqB R E0 E1 E2 xb w b) acc j = acc j + statB (hB R xb w b) j := by
  have e := fun r k o => hV_apply R E0 E1 E2 xb w b hw r k o
  have e0 := fun o => sumB_eq R E0 E1 E2 xb w b o
  have e1 := fun o => sqB_eq R E0 E1 E2 xb w b o
  simp only [e] at e0 e1
  obtain ⟨a, o, rfl⟩ : ∃ (a : Fin 2) (o : Fin 16), j = ix2 a o := ⟨j 0, j 1, by funext a; match a with | ⟨0, _⟩ => rfl | ⟨1, _⟩ => rfl⟩
  match a with
  | ⟨0, _⟩ => pointwise [k0_pay1, statB, e0]
  | ⟨1, _⟩ => pointwise [k0_pay1, statB, e1]

/-- The offsets of row `r`'s neighbours. -/
theorem P_relB (r : Fin 256) : P (relB v0 v2 v4) r = fun k e =>
    v4 (ix3 0 (nth (fun m => d2 (fun e => v0 (ix3 0 r e)) (fun e => v2 (ix3 0 e m))) k.val) e) - v0 (ix3 0 r e) :=
  funext fun k => funext fun e => relB_apply v0 v2 v4 k r e

end

/-- The neighbour and the channel of a lane. -/
def laneJ (l : Fin 256) : Fin 16 := ⟨l.val / 16, by omega⟩
def laneO (l : Fin 256) : Fin 16 := ⟨l.val % 16, by omega⟩

theorem lane_surj (l : Fin 256) : lane (laneJ l) (laneO l) = l :=
  Fin.ext (by show 16 * (l.val / 16) + l.val % 16 = l.val; omega)

theorem laneJ_lane (j o : Fin 16) : laneJ (lane j o) = j := Fin.ext (by show (16 * j.val + o.val) / 16 = j.val; omega)
theorem laneO_lane (j o : Fin 16) : laneO (lane j o) = o := Fin.ext (by show (16 * j.val + o.val) % 16 = o.val; omega)

/-! ### The arrays -/

variable (V : (c : Dev nD) → (b : Ref sig .tc) → Buf (Elt Ideal) ((c.tc : Thread nD τ).loc b))

theorem idx0 : ∀ t : Fin cfg0.N, win0_0.index t 0 = t.val / 16 ∧ win0_0.index t 1 = t.val % 16 ∧ win0_0.index t 2 = 0 := by decide +kernel
theorem idx1 : ∀ t : Fin cfg0.N, win0_1.index t 0 = t.val / 16 ∧ win0_1.index t 1 = 0 ∧ win0_1.index t 2 = 0 := by decide +kernel
theorem idx2 : ∀ t : Fin cfg0.N, win0_2.index t 0 = t.val / 16 ∧ win0_2.index t 1 = 0 ∧ win0_2.index t 2 = 0 := by decide +kernel
theorem idx5 : ∀ t : Fin cfg0.N, win0_5.index t 0 = t.val / 16 ∧ win0_5.index t 1 = t.val % 16 ∧ win0_5.index t 2 = 0 := by decide +kernel
theorem idxc : ∀ t : Fin cfg0.N, (∀ a, win0_3.index t a = 0) ∧ (∀ a, win0_4.index t a = 0) ∧ (∀ a, win0_6.index t a = 0) := by decide +kernel

theorem n0 : cfg0.N = 32 := N_0

/-- The cloud and the row that row `r` of point `t`'s block is. -/
def cloud (t : Fin cfg0.N) : Fin 2 := ⟨t.val / 16, by have := t.isLt; have := n0; omega⟩
def row (t : Fin cfg0.N) (r : Fin 256) : Fin 4096 := ⟨t.val % 16 * 256 + r.val, by omega⟩

theorem blk0 (c : Dev nD) (t : Fin cfg0.N) (r : Fin 256) (k : Fin 3) :
    (iblk0 V c 0 t : Vec Ideal S1x256x3 .f32) (ix3 0 r k) = (V c main_arg1 : Vec Ideal S2x4096x3 .f32) (ix3 (cloud t) (row t r) k) := by
  unfold iblk0
  rw [View.read_apply]
  show (V c main_arg1) _ = _
  refine congrArg (V c main_arg1 : Vec Ideal S2x4096x3 .f32) (funext fun a => Fin.ext ?_)
  have h := idx0 t
  match a with
  | ⟨0, _⟩ => show win0_0.index t 0 * 1 + 1 * 0 = t.val / 16; rw [h.1]; omega
  | ⟨1, _⟩ => show win0_0.index t 1 * 256 + 1 * r.val = t.val % 16 * 256 + r.val; rw [h.2.1]; omega
  | ⟨2, _⟩ => show win0_0.index t 2 * 3 + 1 * k.val = k.val; rw [h.2.2]; omega

theorem blk1 (c : Dev nD) (t : Fin cfg0.N) (e : Fin 3) (m : Fin 4096) :
    (iblk0 V c 1 t : Vec Ideal S1x3x4096 .f32) (ix3 0 e m) = (V c main_v0 : Vec Ideal S2x3x4096 .f32) (ix3 (cloud t) e m) := by
  unfold iblk0
  rw [View.read_apply]
  show (V c main_v0) _ = _
  refine congrArg (V c main_v0 : Vec Ideal S2x3x4096 .f32) (funext fun a => Fin.ext ?_)
  have h := idx1 t
  match a with
  | ⟨0, _⟩ => show win0_1.index t 0 * 1 + 1 * 0 = t.val / 16; rw [h.1]; omega
  | ⟨1, _⟩ => show win0_1.index t 1 * 3 + 1 * e.val = e.val; rw [h.2.1]; omega
  | ⟨2, _⟩ => show win0_1.index t 2 * 4096 + 1 * m.val = m.val; rw [h.2.2]; omega

theorem blk2 (c : Dev nD) (t : Fin cfg0.N) (m : Fin 4096) (e : Fin 3) :
    (iblk0 V c 2 t : Vec Ideal S1x4096x3 .f32) (ix3 0 m e) = (V c main_arg1 : Vec Ideal S2x4096x3 .f32) (ix3 (cloud t) m e) := by
  unfold iblk0
  rw [View.read_apply]
  show (V c main_arg1) _ = _
  refine congrArg (V c main_arg1 : Vec Ideal S2x4096x3 .f32) (funext fun a => Fin.ext ?_)
  have h := idx2 t
  match a with
  | ⟨0, _⟩ => show win0_2.index t 0 * 1 + 1 * 0 = t.val / 16; rw [h.1]; omega
  | ⟨1, _⟩ => show win0_2.index t 1 * 4096 + 1 * m.val = m.val; rw [h.2.1]; omega
  | ⟨2, _⟩ => show win0_2.index t 2 * 3 + 1 * e.val = e.val; rw [h.2.2]; omega

theorem blk3 (c : Dev nD) (t : Fin cfg0.N) : (iblk0 V c 3 t : Vec Ideal S40x16 .f32) = V c main_v2 := by
  funext j; unfold iblk0; rw [View.read_apply]; show (V c main_v2) _ = _
  refine congrArg (V c main_v2 : Vec Ideal S40x16 .f32) (funext fun a => Fin.ext ?_)
  show win0_3.index t a * S40x16.size a + 1 * (j a).val = (j a).val
  rw [(idxc t).1 a]; omega

theorem blk4 (c : Dev nD) (t : Fin cfg0.N) : (iblk0 V c 4 t : Vec Ideal S1x16 .f32) = V c main_v9 := by
  funext j; unfold iblk0; rw [View.read_apply]; show (V c main_v9) _ = _
  refine congrArg (V c main_v9 : Vec Ideal S1x16 .f32) (funext fun a => Fin.ext ?_)
  show win0_4.index t a * S1x16.size a + 1 * (j a).val = (j a).val
  rw [(idxc t).2.1 a]; omega

/-- The points, their transpose, and the first layer's weights and bias, as the launch finds them. -/
abbrev pts (c : Dev nD) : Vec Ideal S2x4096x3 .f32 := V c main_arg1
abbrev ptsT (c : Dev nD) : Vec Ideal S2x3x4096 .f32 := V c main_v0
abbrev w1A (c : Dev nD) : Vec Ideal S40x16 .f32 := V c main_v2
abbrev b1A (c : Dev nD) : Vec Ideal S1x16 .f32 := V c main_v9

/-- The offsets of the sixteen nearest of cloud `b`'s points from its point `n`. -/
def offs (c : Dev nD) (b : Fin 2) (n : Fin 4096) (k : Fin 16) (e : Fin 3) : EReal :=
  pts V c (ix3 b (nth (fun m => d2 (fun e => pts V c (ix3 b n e)) (fun e => ptsT V c (ix3 b e m))) k.val) e) - pts V c (ix3 b n e)

/-- The first layer `o` at neighbour `j` of point `n` of cloud `b`. -/
def h1A (c : Dev nD) (b : Fin 2) (n : Fin 4096) (j o : Fin 16) : EReal :=
  layer (encS fun d => Ideal.liftRound Int.floor (pts V c (ix3 b n d))) (featS (offs V c b n)) (offs V c b n j)
    (fun x => w1A V c (ix2 x o)) (b1A V c (ix2 0 o))

/-- The offsets of the block at point `t`. -/
abbrev relT (c : Dev nD) (t : Fin cfg0.N) : Fin 16 → FVec Ideal S256x3 .f32 := relB (iblk0 V c 0 t) (iblk0 V c 1 t) (iblk0 V c 2 t)

theorem P_relT (c : Dev nD) (t : Fin cfg0.N) (r : Fin 256) : P (relT V c t) r = offs V c (cloud t) (row t r) := by
  rw [P_relB]
  simp only [blk0, blk1, blk2]
  rfl

/-- The first layer of the block at point `t`. -/
theorem blkV (c : Dev nD) (t : Fin cfg0.N) (r : Fin 256) (j o : Fin 16) :
    hB (relT V c t) (k0_pay2 (iblk0 V c 0 t)) (iblk0 V c 3 t) (iblk0 V c 4 t) r j o = h1A V c (cloud t) (row t r) j o := by
  unfold hB h1A
  rw [P_relT, blk3, blk4]
  simp only [xb_apply, blk0]

variable (hw : ∀ (c : Dev nD) (f : Fin 3) (o : Fin 16), w1A V c (ix2 (eig f) o) = 0)

include hw in
theorem hwT (c : Dev nD) (t : Fin cfg0.N) (f : Fin 3) (o : Fin 16) : (show Vec Ideal S40x16 .f32 from iblk0 V c 3 t) (ix2 (eig f) o) = (0 : EReal) := by
  rw [blk3]; exact hw c f o

set_option maxRecDepth 400000 in
set_option maxHeartbeats 2000000 in
include hw in
theorem outs_h1 (c : Dev nD) (t : Fin cfg0.N) (r : Fin 256) (j o : Fin 16) :
    (outsAt0 V c t.val t.isLt).1 (ix3 0 r (lane j o)) = h1A V c (cloud t) (row t r) j o := by
  rw [← blkV]
  by_cases h : t.val % 32 = 0
  · rw [outsAt0_A V c t h]; frame_out
    simp only [k0_pay6, k0_pay7, k0_pay8, k0_pay10, k0_pay11, k0_pay13, k0_pay14, k0_pay16, k0_pay17, k0_pay18, k0_pay20, k0_pay21, k0_pay23, k0_pay24, k0_pay27, k0_pay28, k0_pay30, k0_pay31, k0_pay33, k0_pay34, k0_pay37, k0_pay38, k0_pay40, k0_pay41, k0_pay43, k0_pay44, k0_pay47, k0_pay48, k0_pay50, k0_pay51, k0_pay53, k0_pay54, k0_pay72, k0_pay88,
      sel0, sel1, sel2, sel3, sel4, sel5, sel6, sel7, sel8, sel9, sel10, sel11, sel12, sel13, sel14, min15, rel15, nxt_fold, rel_fold]
    simp (disch := rfl) only [lanes_of]
    simp only [dK_zero, dK_succ, Nat.reduceAdd, rK_fold]
    exact h1B_apply (relT V c t) _ _ _ (k0_pay2 (iblk0 V c 0 t)) (iblk0 V c 3 t) (iblk0 V c 4 t) (hwT V hw c t) r j o
  · rw [outsAt0_B V c t h]; frame_out
    simp only [k0_pay6, k0_pay7, k0_pay8, k0_pay10, k0_pay11, k0_pay13, k0_pay14, k0_pay16, k0_pay17, k0_pay18, k0_pay20, k0_pay21, k0_pay23, k0_pay24, k0_pay27, k0_pay28, k0_pay30, k0_pay31, k0_pay33, k0_pay34, k0_pay37, k0_pay38, k0_pay40, k0_pay41, k0_pay43, k0_pay44, k0_pay47, k0_pay48, k0_pay50, k0_pay51, k0_pay53, k0_pay54, k0_pay72, k0_pay88,
      sel0, sel1, sel2, sel3, sel4, sel5, sel6, sel7, sel8, sel9, sel10, sel11, sel12, sel13, sel14, min15, rel15, nxt_fold, rel_fold]
    simp (disch := rfl) only [lanes_of]
    simp only [dK_zero, dK_succ, Nat.reduceAdd, rK_fold]
    exact h1B_apply (relT V c t) _ _ _ (k0_pay2 (iblk0 V c 0 t)) (iblk0 V c 3 t) (iblk0 V c 4 t) (hwT V hw c t) r j o

/-- The sums a point adds. -/
def term (c : Dev nD) (t : Fin cfg0.N) (j : S2x16.Idx) : EReal := statB (fun r k o => h1A V c (cloud t) (row t r) k o) j

theorem term_eq (c : Dev nD) (t : Fin cfg0.N) (j : S2x16.Idx) :
    statB (hB (relT V c t) (k0_pay2 (iblk0 V c 0 t)) (iblk0 V c 3 t) (iblk0 V c 4 t)) j = term V c t j :=
  congrArg (fun v => statB v j) (funext fun r => funext fun k => funext fun o => blkV V c t r k o)

include hw in
theorem outs_st (c : Dev nD) (t : Fin cfg0.N) (h : t.val + 1 = cfg0.N) (j : S2x16.Idx) :
    (outsAt0 V c t.val t.isLt).2 j = ∑ p : Fin cfg0.N, term V c p j := by
  rw [Pipeline.eq_sum_fin_of_reset_step_apply_last (fun n h => (outsAt0 V c n h).2) 32 (fun _ => 0) (term V c)
    (fun t h j => by
      rw [outsAt0_A V c t h]; frame_out
      simp only [k0_pay6, k0_pay7, k0_pay8, k0_pay10, k0_pay11, k0_pay13, k0_pay14, k0_pay16, k0_pay17, k0_pay18, k0_pay20, k0_pay21, k0_pay23, k0_pay24, k0_pay27, k0_pay28, k0_pay30, k0_pay31, k0_pay33, k0_pay34, k0_pay37, k0_pay38, k0_pay40, k0_pay41, k0_pay43, k0_pay44, k0_pay47, k0_pay48, k0_pay50, k0_pay51, k0_pay53, k0_pay54, k0_pay72, k0_pay88,
        sel0, sel1, sel2, sel3, sel4, sel5, sel6, sel7, sel8, sel9, sel10, sel11, sel12, sel13, sel14, min15, rel15, nxt_fold, rel_fold]
      simp (disch := rfl) only [lanes_of]
      simp only [dK_zero, dK_succ, Nat.reduceAdd, rK_fold]
      refine (pay1_apply (iblk0 V c 3 t) (iblk0 V c 4 t) (hwT V hw c t) (relT V c t) _ _ _ (k0_pay2 (iblk0 V c 0 t)) _ j).trans ?_
      rw [term_eq, show k0_pay259 (F := Ideal) j = 0 from by pointwise [k0_pay259]])
    (fun t h j => by
      rw [outsAt0_B V c t h]; frame_out
      simp only [k0_pay6, k0_pay7, k0_pay8, k0_pay10, k0_pay11, k0_pay13, k0_pay14, k0_pay16, k0_pay17, k0_pay18, k0_pay20, k0_pay21, k0_pay23, k0_pay24, k0_pay27, k0_pay28, k0_pay30, k0_pay31, k0_pay33, k0_pay34, k0_pay37, k0_pay38, k0_pay40, k0_pay41, k0_pay43, k0_pay44, k0_pay47, k0_pay48, k0_pay50, k0_pay51, k0_pay53, k0_pay54, k0_pay72, k0_pay88,
        sel0, sel1, sel2, sel3, sel4, sel5, sel6, sel7, sel8, sel9, sel10, sel11, sel12, sel13, sel14, min15, rel15, nxt_fold, rel_fold]
      simp (disch := rfl) only [lanes_of]
      simp only [dK_zero, dK_succ, Nat.reduceAdd, rK_fold]
      refine (pay1_apply (iblk0 V c 3 t) (iblk0 V c 4 t) (hwT V hw c t) (relT V c t) _ _ _ (k0_pay2 (iblk0 V c 0 t)) _ j).trans ?_
      rw [term_eq]) (le_of_eq n0) t h j, zero_add]

/-- The first layer of all points. -/
def hmA (c : Dev nD) : Vec Ideal S2x4096x256 .f32 := fun i => h1A V c (i 0) (i 1) (laneJ (i 2)) (laneO (i 2))

/-- Their sums, and the sums of their squares. -/
def stA (c : Dev nD) : Vec Ideal S2x16 .f32 := fun j =>
  if (j 0).val = 0 then ∑ b, ∑ n, ∑ k, h1A V c b n k (j 1) else ∑ b, ∑ n, ∑ k, h1A V c b n k (j 1) * h1A V c b n k (j 1)

theorem sum_points (g : Fin 2 → Fin 4096 → EReal) : ∑ t : Fin cfg0.N, ∑ r : Fin 256, g (cloud t) (row t r) = ∑ b, ∑ n, g b n :=
  Fin.sum_points_lanes_fin 16 g n0 rfl

theorem sum_blocks (g : Fin 2 → Fin 4096 → Fin 16 → EReal) :
    ∑ t : Fin cfg0.N, ∑ k, ∑ r : Fin 256, g (cloud t) (row t r) k = ∑ b, ∑ n, ∑ k, g b n k := by
  rw [← sum_points fun b n => ∑ k, g b n k]
  exact Finset.sum_congr rfl fun t _ => Finset.sum_comm

theorem st_eq (c : Dev nD) (j : S2x16.Idx) : ∑ p : Fin cfg0.N, term V c p j = stA V c j := by
  unfold term statB stA
  split
  · exact sum_blocks fun b n k => h1A V c b n k (j 1)
  · exact sum_blocks fun b n k => h1A V c b n k (j 1) * h1A V c b n k (j 1)

theorem emb5 (t : Fin cfg0.N) (j : S1x256x256.Idx) :
    (((cfg0.win 5).blk t).view.emb j : S2x4096x256.Idx) = ix3 (cloud t) (row t (j 1)) (j 2) := by
  funext a
  apply Fin.ext
  have h := idx5 t
  have h0 : (j 0).val < 1 := (j 0).isLt
  match a with
  | ⟨0, _⟩ => show win0_5.index t 0 * 1 + 1 * (j 0).val = t.val / 16; rw [h.1]; omega
  | ⟨1, _⟩ => show win0_5.index t 1 * 256 + 1 * (j 1).val = t.val % 16 * 256 + (j 1).val; rw [h.2.1]; omega
  | ⟨2, _⟩ => show win0_5.index t 2 * 256 + 1 * (j 2).val = (j 2).val; rw [h.2.2]; omega

include hw in
theorem at_point (c : Dev nD) (t : Fin cfg0.N) (j : S1x256x256.Idx) :
    (outsAt0 V c t.val t.isLt).1 j = h1A V c (cloud t) (row t (j 1)) (laneJ (j 2)) (laneO (j 2)) := by
  obtain ⟨r, o, rfl⟩ : ∃ (r : Fin 256) (o : Fin 256), j = ix3 (0 : Fin 1) r o := ⟨j 1, j 2, by
    funext a
    match a with
    | ⟨0, _⟩ => exact Subsingleton.elim (α := Fin 1) _ _
    | ⟨1, _⟩ => rfl
    | ⟨2, _⟩ => rfl⟩
  exact (congrArg (fun o => (outsAt0 V c t.val t.isLt).1 (ix3 0 r o)) (lane_surj o).symm).trans (outs_h1 V hw c t r (laneJ o) (laneO o))

theorem covers5 : (cfg0.win 5).Covers := by decide +kernel

theorem hcov (i : S2x4096x256.Idx) : ∃ t : Fin cfg0.N, (cfg0.win 5).flush t = true ∧ i ∈ ((cfg0.win 5).blk t).view.set :=
  Pipeline.Window.Covers.cover _ covers5 (Memref.isWhole_whole _) i

include hw in
theorem hflush (c : Dev nD) (t : Fin cfg0.N) : (dat0 V c).flushed 5 t = ((cfg0.win 5).blk t).view.read (Elt Ideal) (hmA V c) := by
  show (cfg0.win 5).cut (grid0.coords t) ((dat0 V c).after 5 t) = _
  rw [after0_5]
  funext y
  refine (at_point V hw c t y).trans ?_
  rw [View.read_apply]
  exact (congrArg (hmA V c) (emb5 t y)).symm

include hw in
theorem final_hm (c : Dev nD) : (dat0 V c).arrAt 5 cfg0.N = hmA V c :=
  (dat0 V c).arrAt_eq_of_cover 5 (hmA V c) (fun t _ => hflush V hw c t) hcov

theorem covers6 : (cfg0.win 6).Covers := by decide +kernel

theorem hcov6 (i : S2x16.Idx) : ∃ t : Fin cfg0.N, (cfg0.win 6).flush t = true ∧ i ∈ ((cfg0.win 6).blk t).view.set :=
  Pipeline.Window.Covers.cover _ covers6 (Memref.isWhole_whole _) i

theorem emb6 (t : Fin cfg0.N) (j : S2x16.Idx) : (((cfg0.win 6).blk t).view.emb j : S2x16.Idx) = j := by
  funext a
  apply Fin.ext
  show win0_6.index t a * S2x16.size a + 1 * (j a).val = (j a).val
  rw [(idxc t).2.2 a]; omega

include hw in
theorem hflush6 (c : Dev nD) (t : Fin cfg0.N) (h : (cfg0.win 6).flush t = true) :
    (dat0 V c).flushed 6 t = ((cfg0.win 6).blk t).view.read (Elt Ideal) (stA V c) := by
  show (cfg0.win 6).cut (grid0.coords t) ((dat0 V c).after 6 t) = _
  rw [after0_6]
  funext y
  have h7 := (flush0_6 t).mp h
  have hl := t.isLt
  have := n0
  refine ((outs_st V hw c t (by omega) y).trans (st_eq V c y)).trans ?_
  rw [View.read_apply]
  exact (congrArg (stA V c) (emb6 t y)).symm

include hw in
theorem final_st (c : Dev nD) : (dat0 V c).arrAt 6 cfg0.N = stA V c :=
  (dat0 V c).arrAt_eq_of_cover 6 (stA V c) (fun t h => hflush6 V hw c t h) hcov6

end Cert.KernelIdeal.Knn

end

end
-- ==== Proof.RefSel.lean ====
module

public import Idealize.ShloMosaic.Lib.PlanTiles.StableSort
public import proofs.«01_k».proof.Proof.Gen.ReferenceIdeal.Read
public import proofs.«01_k».proof.Proof.Knn

@[expose] public section

set_option maxRecDepth 16384

noncomputable section

/-! The reference's neighbours: a sort by distance, cut after sixteen, lists the successive picks of a nearest point. -/

namespace Cert.Pf

open Idealize.ShloMosaic

/-- What holds of every two entries of a sorted list holds of the sorted positions. -/
theorem sorted_rel {n : ℕ} (R : Fin n → Fin n → Bool) (Q : Fin n → Fin n → Prop)
    (hp : (stableSort R (List.finRange n)).Pairwise Q) (i j : Fin n) (h : i < j) : Q (sortedFrom R i) (sortedFrom R j) :=
  List.pairwise_iff_get.mp hp (i.cast (length_sortPositions n _).symm) (j.cast (length_sortPositions n _).symm) h

section
variable (d : Fin 4096 → EReal)

/-- How many entries are greater. -/
def rank (n : Fin 4096) : ℕ := (Finset.univ.filter fun m => d n < d m).card

theorem rank_lt (x y : Fin 4096) : rank d y < rank d x ↔ d x < d y := by
  constructor
  · intro h
    by_contra hn
    have hle : d y ≤ d x := not_lt.mp hn
    exact absurd h (not_lt.mpr (Finset.card_le_card fun m hm =>
      Finset.mem_filter.mpr ⟨Finset.mem_univ _, hle.trans_lt (Finset.mem_filter.mp hm).2⟩))
  · intro h
    refine Finset.card_lt_card (Finset.ssubset_iff_of_subset (fun m hm =>
      Finset.mem_filter.mpr ⟨Finset.mem_univ _, h.trans (Finset.mem_filter.mp hm).2⟩) |>.mpr
      ⟨y, Finset.mem_filter.mpr ⟨Finset.mem_univ _, h⟩, fun hy => lt_irrefl _ (Finset.mem_filter.mp hy).2⟩)

/-- The indices by increasing entry, equal entries in index order. -/
def asc : Fin 4096 → Fin 4096 := sortedFrom fun x y => decide (d x < d y)

theorem asc_lex (i j : Fin 4096) (h : i < j) : d (asc d i) < d (asc d j) ∨ (d (asc d i) = d (asc d j) ∧ asc d i < asc d j) := by
  have e : (fun x y : Fin 4096 => decide (d x < d y)) = fun x y => decide (rank d y < rank d x) :=
    funext fun x => funext fun y => decide_eq_decide.mpr (rank_lt d x y).symm
  have hij := sorted_rel _ _
    (PlanTiles.pairwise_stableSort_lex (rank d) (· < ·) (List.finRange 4096) (List.pairwise_lt_finRange 4096)) i j h
  rw [← e] at hij
  change PlanTiles.Lex (rank d) (· < ·) (asc d i) (asc d j) at hij
  generalize asc d i = u at hij ⊢
  generalize asc d j = v at hij ⊢
  rcases hij with h1 | ⟨h1, h2⟩
  · exact Or.inl ((rank_lt d _ _).mp h1)
  · refine Or.inr ⟨?_, h2⟩
    rcases lt_trichotomy (d u) (d v) with h3 | h3 | h3
    · exact absurd h1 (ne_of_gt ((rank_lt d _ _).mpr h3))
    · exact h3
    · exact absurd h1 (ne_of_lt ((rank_lt d _ _).mpr h3))

theorem asc_inj : Function.Injective (asc d) := sortedFrom_injective _
theorem asc_surj : Function.Surjective (asc d) := sortedFrom_surjective _

/-- The row with its first `k` in increasing order taken out. -/
def cutAsc (k : ℕ) : Fin 4096 → EReal := fun n => by
  classical exact if ∃ i : Fin 4096, i.val < k ∧ asc d i = n then ⊤ else d n

variable (hd : ∀ n, d n < ⊤)

include hd

theorem pick_cutAsc (k : Fin 4096) : pick (cutAsc d k.val) = asc d k := by
  have hk : cutAsc d k.val (asc d k) = d (asc d k) :=
    if_neg fun ⟨i, hi, e⟩ => absurd (asc_inj d e) (ne_of_lt (Fin.lt_def.mpr hi))
  have hge (j : Fin 4096) (hj : ¬ j < k) : cutAsc d k.val (asc d j) = d (asc d j) :=
    if_neg fun ⟨i, hi, e⟩ => hj (by rw [← asc_inj d e]; exact hi)
  refine eq_pick _ _ (fun m => ?_) (fun m hm => ?_)
  · obtain ⟨j, rfl⟩ := asc_surj d m
    rw [hk]
    by_cases hj : j < k
    · rw [show cutAsc d k.val (asc d j) = ⊤ from if_pos ⟨j, hj, rfl⟩]; exact le_top
    · rw [hge j hj]
      rcases eq_or_lt_of_le (not_lt.mp hj) with rfl | h
      · exact le_refl _
      · rcases asc_lex d k j h with h1 | h1
        · exact le_of_lt h1
        · exact le_of_eq h1.1
  · obtain ⟨j, rfl⟩ := asc_surj d m
    rw [hk] at hm
    by_cases hj : j < k
    · rw [show cutAsc d k.val (asc d j) = ⊤ from if_pos ⟨j, hj, rfl⟩] at hm
      exact absurd (hd _) (not_lt.mpr hm)
    · rw [hge j hj] at hm
      rcases eq_or_lt_of_le (not_lt.mp hj) with rfl | h
      · exact le_refl _
      · rcases asc_lex d k j h with h1 | h1
        · exact absurd h1 (not_lt.mpr hm)
        · exact le_of_lt h1.2

theorem drop_cutAsc (k : ℕ) (hk : k ≤ 4096) : dropPick^[k] d = cutAsc d k := by
  induction k with
  | zero => funext n; exact (if_neg fun ⟨i, hi, _⟩ => absurd hi (by omega)).symm
  | succ k ih =>
    rw [Function.iterate_succ_apply', ih (by omega)]
    funext n
    have hp := pick_cutAsc d hd ⟨k, by omega⟩
    unfold dropPick
    rw [hp]
    by_cases hn : n = asc d ⟨k, by omega⟩
    · rw [if_pos hn]
      exact (if_pos ⟨⟨k, by omega⟩, by show k < k + 1; omega, hn.symm⟩).symm
    · rw [if_neg hn]
      unfold cutAsc
      refine if_congr ⟨fun ⟨i, hi, e⟩ => ⟨i, by omega, e⟩, fun ⟨i, hi, e⟩ => ⟨i, ?_, e⟩⟩ rfl rfl
      rcases Nat.lt_or_eq_of_le (Nat.lt_succ_iff.mp hi) with h | h
      · exact h
      · exact absurd (e.symm.trans (congrArg (asc d) (Fin.ext h))) hn

/-- The `k`-th pick is the `k`-th index in increasing order. -/
theorem nth_eq_asc (k : Fin 4096) : nth d k.val = asc d k := by
  unfold nth
  rw [drop_cutAsc d hd k.val k.isLt.le, pick_cutAsc d hd k]

end

end Cert.Pf

namespace Cert.ReferenceIdeal.Rd

open Idealize.ShloMosaic Cert.ReferenceIdeal.Read

theorem d2_apply (x1 : Vec Ideal S2x4096x3 .f32) (b : Fin 2) (n m : Fin 4096) :
    val_main_v40 (F := Ideal) x1 (ix3 b n m) = KernelIdeal.Knn.d2 (fun e => x1 (ix3 b n e)) (fun e => x1 (ix3 b m e)) := by
  unfold val_main_v40 val_main_v39 val_main_v38 val_main_v37 val_main_v36 val_main_v35 val_main_v34 val_main_v33 val_main_v32 val_main_v31 val_main_v30 val_main_cst_9 val_main_cst_10
  pointwise
  unfold KernelIdeal.Knn.d2
  rw [Fin.sum_univ_three, Fin.sum_univ_three (fun x => x1 (ix3 b m x) * x1 (ix3 b m x))]

/-- The second component of a sort of two arrays. -/
theorem sort2_snd {α β : Type} (s : Shape) (d : ℕ) (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem gt_eq (u v : EReal) : (FloatOps.cmpfTotal (F := Ideal) (φ := .f32) .gt u v == 1#1) = decide (- u < - v) := by
  show (Ideal.cmp .ogt u v == 1#1) = _
  unfold Ideal.cmp
  simp only [EReal.neg_lt_neg_iff]
  by_cases h : v < u <;> simp [h]

theorem topK_row {B N M K : ℕ} (y : FVec Ideal ⟨3, ![B, N, M]⟩ .f32) (h : (⟨3, ![B, N, M]⟩ : Shape).Slices (fun _ => 0) ⟨3, ![B, N, K]⟩) (hK : K ≤ M)
    (b : Fin B) (n : Fin N) (k : Fin K) :
    (Host.topK ⟨3, ![B, N, K]⟩ 2 (FloatOps.cmpfTotal (F := Ideal) (φ := .f32) .gt) y h).2 (ix3 b n k)
      = BitVec.ofNat 32 (sortedFrom (fun x z : Fin M => decide (- y (ix3 b n x) < - y (ix3 b n z))) (k.castLE hK)).val := by
  have hal (m : Fin M) : (ix3 b n (k.castLE hK) : (⟨3, ![B, N, M]⟩ : Shape).Idx).along (⟨2, Nat.lt_succ_self 2⟩ : Fin 3) m = ix3 b n m := by
    funext a
    match a with
    | ⟨0, _⟩ => rfl
    | ⟨1, _⟩ => rfl
    | ⟨2, _⟩ => rfl
  unfold Host.topK
  simp only
  rw [extractStridedSlice_apply _ _ h (ix3 b n k) (ix3 b n (k.castLE hK) : (⟨3, ![B, N, M]⟩ : Shape).Idx) (fun a => by
    match a with
    | ⟨0, _⟩ => simp
    | ⟨1, _⟩ => simp
    | ⟨2, _⟩ => simp), sort2_snd (⟨3, ![B, N, M]⟩ : Shape) 2 (show 2 < 3 by decide)]
  rw [dif_pos (show 2 < 3 by decide)]
  simp only [gt_eq]
  have e : (fun x z : Fin M => decide (- y ((ix3 b n (k.castLE hK) : (⟨3, ![B, N, M]⟩ : Shape).Idx).along (⟨2, Nat.lt_succ_self 2⟩ : Fin 3) x)
      < - y ((ix3 b n (k.castLE hK) : (⟨3, ![B, N, M]⟩ : Shape).Idx).along (⟨2, Nat.lt_succ_self 2⟩ : Fin 3) z)))
      = fun x z : Fin M => decide (- y (ix3 b n x) < - y (ix3 b n z)) := by
    funext x z; rw [hal, hal]
  rw [← e]
  rfl

theorem topK_apply (y : FVec Ideal S2x4096x4096 .f32) (h : S2x4096x4096.Slices (fun _ => 0) S2x4096x16) (b : Fin 2) (n : Fin 4096) (k : Fin 16) :
    (Host.topK S2x4096x16 2 (FloatOps.cmpfTotal (F := Ideal) (φ := .f32) .gt) y h).2 (ix3 b n k)
      = BitVec.ofNat 32 (Pf.asc (fun m => - y (ix3 b n m)) (k.castLE (by decide))).val := by
  unfold Pf.asc
  exact topK_row y h (by decide) b n k

theorem gather_apply (x : Vec Ideal S2x4096x3 .f32) (idx : IVec S2x4096x16x1 32) (b : Fin 2) (n : Fin 4096) (k : Fin 16) (e : Fin 3) (p : Fin 4096)
    (hp : idx (ix4 b n k 0) = BitVec.ofNat 32 p.val) :
    Host.gather gather_S2x4096x3_S2x4096x16x1_S2x4096x16x3_3_1_0_0_1_3_113 x idx (ix4 b n k e) = x (ix3 b p e) := by
  unfold Host.gather
  congr 1
  funext a
  refine Fin.ext ?_
  show (gather_S2x4096x3_S2x4096x16x1_S2x4096x16x3_3_1_0_0_1_3_113).start (ix4 b n k e) idx a
    + (gather_S2x4096x3_S2x4096x16x1_S2x4096x16x3_3_1_0_0_1_3_113).batchCoord (ix4 b n k e) a
    + (gather_S2x4096x3_S2x4096x16x1_S2x4096x16x3_3_1_0_0_1_3_113).offCoord (ix4 b n k e) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S2x4096x3_S2x4096x16x1_S2x4096x16x3_3_1_0_0_1_3_113).operandBatchingDims from List.mem_singleton.mpr rfl)]
    rfl
  · rw [GatherDims.batchCoord_eq_zero _ _ _ (fun h => by simp [gather_S2x4096x3_S2x4096x16x1_S2x4096x16x3_3_1_0_0_1_3_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S2x4096x3_S2x4096x16x1_S2x4096x16x3_3_1_0_0_1_3_113).startIndexMap from List.mem_singleton.mpr rfl)]
    have hsi : (gather_S2x4096x3_S2x4096x16x1_S2x4096x16x3_3_1_0_0_1_3_113).siIdx (ix4 b n k e)
        ⟨List.idxOf (1 : Fin 3) (gather_S2x4096x3_S2x4096x16x1_S2x4096x16x3_3_1_0_0_1_3_113).startIndexMap,
          List.idxOf_lt_length_iff.2 (List.mem_singleton.mpr rfl)⟩ = ix4 b n k 0 := by
      funext c; refine Fin.ext ?_
      match c with
      | ⟨0, _⟩ => rfl
      | ⟨1, _⟩ => rfl
      | ⟨2, _⟩ => rfl
      | ⟨3, _⟩ => rfl
    rw [hsi, hp, Pf.toInt_lane]
    show min ((p.val : ℤ).toNat) (4096 - 1) = p.val
    have := p.isLt
    omega
  · have hs : (gather_S2x4096x3_S2x4096x16x1_S2x4096x16x3_3_1_0_0_1_3_113).start (ix4 b n k e) idx 2 = 0 := by
      unfold GatherDims.start
      rw [dif_neg (fun h => by simp [gather_S2x4096x3_S2x4096x16x1_S2x4096x16x3_3_1_0_0_1_3_113] at h)]
    rw [hs, GatherDims.batchCoord_eq_zero _ _ _ (fun h => by simp [gather_S2x4096x3_S2x4096x16x1_S2x4096x16x3_3_1_0_0_1_3_113] at h)]
    simp only [Nat.zero_add]
    rfl

end Cert.ReferenceIdeal.Rd

end

end
-- ==== Proof.RefFeat.lean ====
module

public import proofs.«01_k».proof.Proof.RefSel

@[expose] public section

set_option maxRecDepth 16384

noncomputable section

/-! The reference's first layer, entry by entry: the neighbours' offsets, the features and the sum over forty channels. -/

namespace Cert.Pf

open Idealize.ShloMosaic

section
variable (p : Fin 16 → Fin 3 → EReal)

/-- Neighbour `k`'s direction along axis `d`, by division. -/
def dirsR (k : Fin 16) (d : Fin 3) : EReal := Ideal.div (p k d) (len p k + e8)

/-- The consistency of the directions, as the mean of their products. -/
def dconsR : EReal := Ideal.div (∑ k, ∑ j, ∑ d, dirsR p k d * dirsR p j d) c256

/-- The spread, from the three deviations. -/
def spreadR : EReal := Ideal.sqrt (∑ d : Fin 3, devi (fun k => p k d) * devi fun k => p k d)

/-- The ten features of a neighbourhood, in the reference's form. -/
def featR : Fin 10 → EReal :=
  ![Finset.univ.sup (dist p), mean (dist p), devi (dist p), dconsR p, devi (fun k => p k 2),
    (Finset.univ.sup fun k => p k 2) - (Finset.univ.inf fun k => p k 2), ctr p 0, ctr p 1, ctr p 2, spreadR p]
end

theorem ofBits_ninf : Ideal.ofBits .f32 0xFF800000#32 = ⊥ := by simp [Ideal.ofBits, Ideal.ieee]

theorem fold_max_sup {n : ℕ} (f : Fin n → EReal) : Finset.univ.fold max ⊥ f = Finset.univ.sup f := rfl
theorem fold_min_inf {n : ℕ} (f : Fin n → EReal) : Finset.univ.fold min ⊤ f = Finset.univ.inf f := rfl

theorem div_one (x : EReal) : Ideal.div x 1 = x := by
  unfold Ideal.div
  rw [if_neg one_ne_zero, inv_one, mul_one]

end Cert.Pf

namespace Cert.ReferenceIdeal.Rd

open Idealize.ShloMosaic Cert.ReferenceIdeal.Read Cert.Pf

variable (x1 : Vec Ideal S2x4096x3 .f32)

/-- The neighbours' offsets of a point, in the reference. -/
def R (b : Fin 2) (n : Fin 4096) (k : Fin 16) (e : Fin 3) : EReal := val_main_v51 (F := Ideal) x1 (ix4 b n k e)

/-- The neighbours' offsets of a point, from the successive nearest points. -/
def offsR (b : Fin 2) (n : Fin 4096) (k : Fin 16) (e : Fin 3) : EReal :=
  x1 (ix3 b (nth (fun m => KernelIdeal.Knn.d2 (fun e => x1 (ix3 b n e)) (fun e => x1 (ix3 b m e))) k.val) e) - x1 (ix3 b n e)

/-- An index that is not negative is not wrapped. -/
theorem wrap_eq (p : Fin 4096) :
    Scalar.select (IntOp.cmpi .slt (BitVec.ofNat 32 p.val) 0#32) (IntOp.addi (BitVec.ofNat 32 p.val) 4096#32) (BitVec.ofNat 32 p.val)
      = BitVec.ofNat 32 p.val := by
  have h : (BitVec.ofNat 32 p.val).slt 0#32 = false := by
    rw [BitVec.slt_eq_decide, toInt_lane]
    simp
  simp [Scalar.select, IntOp.cmpi, h]

theorem R_eq (hd : ∀ b n m, KernelIdeal.Knn.d2 (fun e => x1 (ix3 b n e)) (fun e => x1 (ix3 b m e)) < ⊤)
    (b : Fin 2) (n : Fin 4096) : R x1 b n = offsR x1 b n := by
  funext k e
  have hi : val_main_indices (F := Ideal) x1 (ix3 b n k)
      = BitVec.ofNat 32 (nth (fun m => KernelIdeal.Knn.d2 (fun e => x1 (ix3 b n e)) (fun e => x1 (ix3 b m e))) k.val).val := by
    have e1 : (fun m => - val_main_v41 (F := Ideal) x1 (ix3 b n m))
        = fun m => KernelIdeal.Knn.d2 (fun e => x1 (ix3 b n e)) (fun e => x1 (ix3 b m e)) := by
      funext m
      rw [← d2_apply]
      show - - val_main_v40 (F := Ideal) x1 (ix3 b n m) = _
      rw [neg_neg]
    have e2 := topK_apply (val_main_v41 (F := Ideal) x1) Gen.sliceFits_S2x4096x4096_S2x4096x16 b n k
    rw [e1, ← nth_eq_asc _ (hd b n)] at e2
    exact e2
  unfold R offsR
  generalize nth (fun m => KernelIdeal.Knn.d2 (fun e => x1 (ix3 b n e)) (fun e => x1 (ix3 b m e))) k.val = p at hi ⊢
  have hg := gather_apply x1 (val_main_v47 (F := Ideal) x1) b n k e p (by
    unfold val_main_v47 val_main_v46 val_main_v45 val_main_v44 val_main_v43 val_main_v42 val_main_c val_main_c_11
    pointwise
    rw [hi]
    exact wrap_eq p)
  unfold val_main_v51 val_main_v50 val_main_v49 val_main_v48
  pointwise [hg]

theorem v54_apply (b : Fin 2) (n : Fin 4096) (e : Fin 3) : val_main_v54 (F := Ideal) x1 (ix3 b n e) = ctr (R x1 b n) e := by
  unfold val_main_v54 val_main_v53 val_main_v52 val_main_cst_12 val_main_cst_13 ctr mean R
  pointwise
  rfl

theorem v60_apply (b : Fin 2) (n : Fin 4096) (k : Fin 16) : val_main_v60 (F := Ideal) x1 (ix3 b n k) = Pf.dist (R x1 b n) k := by
  unfold val_main_v60 val_main_v59 val_main_v58 val_main_v57 val_main_v56 val_main_v55 val_main_cst_14 Pf.dist
  pointwise [v54_apply]
  rw [Fin.sum_univ_three]
  rfl

theorem v68_apply (b : Fin 2) (n : Fin 4096) (k : Fin 16) (e : Fin 3) : val_main_v68 (F := Ideal) x1 (ix4 b n k e) = dirsR (R x1 b n) k e := by
  unfold val_main_v68 val_main_v67 val_main_v66 val_main_v65 val_main_v64 val_main_v63 val_main_v62 val_main_v61 val_main_cst_15 val_main_cst_16 dirsR len
  pointwise
  rw [Fin.sum_univ_three]
  rfl

theorem z_apply (b : Fin 2) (n : Fin 4096) (k : Fin 16) : val_main_v74 (F := Ideal) x1 (ix3 b n k) = R x1 b n k 2 := by
  unfold val_main_v74 val_main_v73 R
  pointwise

theorem v88_apply (b : Fin 2) (n : Fin 4096) : val_main_v88 (F := Ideal) x1 (ix2 b n) = spreadR (R x1 b n) := by
  unfold val_main_v88 val_main_v87 val_main_v86 val_main_v85 val_main_v84 val_main_v83 val_main_v82 val_main_v81 val_main_v80 val_main_v79 val_main_v78
    val_main_v77 val_main_v76 val_main_v75 val_main_cst_19 val_main_cst_20 val_main_cst_21 val_main_cst_22 val_main_cst_23 spreadR devi vari mean
  pointwise
  rfl

theorem v103_apply (b : Fin 2) (n : Fin 4096) : val_main_v103 (F := Ideal) x1 (ix2 b n) = devi (Pf.dist (R x1 b n)) := by
  unfold val_main_v103 val_main_v102 val_main_v101 val_main_v100 val_main_v99 val_main_v98 val_main_v97 val_main_v96 val_main_v95 val_main_v94 val_main_v93
    val_main_cst_27 val_main_cst_28 val_main_cst_29 val_main_cst_30 devi vari mean
  pointwise [v60_apply]
  rfl

theorem v114_apply (b : Fin 2) (n : Fin 4096) : val_main_v114 (F := Ideal) x1 (ix2 b n) = devi (fun k => R x1 b n k 2) := by
  unfold val_main_v114 val_main_v113 val_main_v112 val_main_v111 val_main_v110 val_main_v109 val_main_v108 val_main_v107 val_main_v106 val_main_v105 val_main_v104
    val_main_cst_31 val_main_cst_32 val_main_cst_33 val_main_cst_34 devi vari mean
  pointwise [z_apply]
  rfl

theorem v89_apply (b : Fin 2) (n : Fin 4096) : val_main_v89 (F := Ideal) x1 (ix2 b n) = Finset.univ.sup (Pf.dist (R x1 b n)) := by
  unfold val_main_v89 val_main_cst_24
  pointwise [v60_apply, ofBits_ninf, fold_max_sup]

theorem v92_apply (b : Fin 2) (n : Fin 4096) : val_main_v92 (F := Ideal) x1 (ix2 b n) = mean (Pf.dist (R x1 b n)) := by
  unfold val_main_v92 val_main_v91 val_main_v90 val_main_cst_25 val_main_cst_26 mean
  pointwise [v60_apply]
  rfl

theorem v117_apply (b : Fin 2) (n : Fin 4096) : val_main_v117 (F := Ideal) x1 (ix2 b n)
    = (Finset.univ.sup fun k => R x1 b n k 2) - (Finset.univ.inf fun k => R x1 b n k 2) := by
  unfold val_main_v117 val_main_v116 val_main_v115 val_main_cst_35 val_main_cst_36
  pointwise [z_apply, ofBits_ninf, KernelIdeal.Knn.ofBits_inf, fold_max_sup, fold_min_inf]

/-- A sum over the last two axes of four, read by coordinates. -/
theorem sum_last_two (h : S2x4096x16x16.ReducesTo [3, 2] S2x4096) (v : Vec Ideal S2x4096x16x16 .f32) (init : EReal) (b : Fin 2) (n : Fin 4096) :
    Ideal.hostReduceAdd h v init (ix2 b n) = init + ∑ k : Fin 16, ∑ j : Fin 16, v (ix4 b n k j) := by
  refine congrArg (init + ·) ?_
  refine (Finset.sum_filter_eq_sum_of_fiber _ (fun q : Fin 16 × Fin 16 => (ix4 b n q.1 q.2 : S2x4096x16x16.Idx))
    (fun _ _ e => Prod.ext (congrFun e 2) (congrFun e 3)) (fun i => ?_) v).trans (Fintype.sum_prod_type _)
  constructor
  · intro e
    refine ⟨(i 2, i 3), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => rfl
  · rintro ⟨q, rfl⟩
    funext a; apply Fin.ext
    match a with
    | ⟨0, _⟩ => rfl
    | ⟨1, _⟩ => rfl

theorem v72_apply (b : Fin 2) (n : Fin 4096) : val_main_v72 (F := Ideal) x1 (ix2 b n) = dconsR (R x1 b n) := by
  unfold val_main_v72 val_main_v71 val_main_v70 val_main_v69 val_main_cst_17 val_main_cst_18 dconsR
  pointwise [sum_last_two, v68_apply, dot_S2x4096x16x3_S2x4096x16x3_S2x4096x16x16_3_3_2_2_01_01]
  rfl

theorem cat10 (v : Fin 10 → FVec Ideal S2x4096x1 .f32) (b : Fin 2) (n : Fin 4096) (f : Fin 10) :
    concatenate S2x4096x10 2 [⟨S2x4096x1, v 0⟩, ⟨S2x4096x1, v 1⟩, ⟨S2x4096x1, v 2⟩, ⟨S2x4096x1, v 3⟩, ⟨S2x4096x1, v 4⟩, ⟨S2x4096x1, v 5⟩,
        ⟨S2x4096x1, v 6⟩, ⟨S2x4096x1, v 7⟩, ⟨S2x4096x1, v 8⟩, ⟨S2x4096x1, v 9⟩]
      Gen.concatenates_S2x4096x1_S2x4096x1_S2x4096x1_S2x4096x1_S2x4096x1_S2x4096x1_S2x4096x1_S2x4096x1_S2x4096x1_S2x4096x1_S2x4096x10_d2 (ix3 b n f)
      = v f (ix3 b n 0) :=
  concatenate_ofFn_unit_apply (t := S2x4096x10) (s₁ := S2x4096x1) 2 v
    Gen.concatenates_S2x4096x1_S2x4096x1_S2x4096x1_S2x4096x1_S2x4096x1_S2x4096x1_S2x4096x1_S2x4096x1_S2x4096x1_S2x4096x1_S2x4096x10_d2
    rfl rfl (ix3 b n f) f rfl (ix3 b n 0)
    (fun a ha => by
      match a with
      | ⟨0, _⟩ => rfl
      | ⟨1, _⟩ => rfl
      | ⟨2, _⟩ => exact absurd rfl ha)

theorem v134_apply (b : Fin 2) (n : Fin 4096) (f : Fin 10) : val_main_v134 (F := Ideal) x1 (ix3 b n f) = featR (R x1 b n) f := by
  have h0 : val_main_v124 (F := Ideal) x1 (ix3 b n 0) = featR (R x1 b n) 0 := by pointwise [val_main_v124, v89_apply]; rfl
  have h1 : val_main_v125 (F := Ideal) x1 (ix3 b n 0) = featR (R x1 b n) 1 := by pointwise [val_main_v125, v92_apply]; rfl
  have h2 : val_main_v126 (F := Ideal) x1 (ix3 b n 0) = featR (R x1 b n) 2 := by pointwise [val_main_v126, v103_apply]; rfl
  have h3 : val_main_v127 (F := Ideal) x1 (ix3 b n 0) = featR (R x1 b n) 3 := by pointwise [val_main_v127, v72_apply]; rfl
  have h4 : val_main_v128 (F := Ideal) x1 (ix3 b n 0) = featR (R x1 b n) 4 := by pointwise [val_main_v128, v114_apply]; rfl
  have h5 : val_main_v129 (F := Ideal) x1 (ix3 b n 0) = featR (R x1 b n) 5 := by pointwise [val_main_v129, v117_apply]; rfl
  have h6 : val_main_v130 (F := Ideal) x1 (ix3 b n 0) = featR (R x1 b n) 6 := by pointwise [val_main_v130, val_main_v119, val_main_v118, v54_apply]; rfl
  have h7 : val_main_v131 (F := Ideal) x1 (ix3 b n 0) = featR (R x1 b n) 7 := by pointwise [val_main_v131, val_main_v121, val_main_v120, v54_apply]; rfl
  have h8 : val_main_v132 (F := Ideal) x1 (ix3 b n 0) = featR (R x1 b n) 8 := by pointwise [val_main_v132, val_main_v123, val_main_v122, v54_apply]; rfl
  have h9 : val_main_v133 (F := Ideal) x1 (ix3 b n 0) = featR (R x1 b n) 9 := by pointwise [val_main_v133, v88_apply]; rfl
  unfold val_main_v134
  generalize val_main_v124 (F := Ideal) x1 = a0 at h0 ⊢
  generalize val_main_v125 (F := Ideal) x1 = a1 at h1 ⊢
  generalize val_main_v126 (F := Ideal) x1 = a2 at h2 ⊢
  generalize val_main_v127 (F := Ideal) x1 = a3 at h3 ⊢
  generalize val_main_v128 (F := Ideal) x1 = a4 at h4 ⊢
  generalize val_main_v129 (F := Ideal) x1 = a5 at h5 ⊢
  generalize val_main_v130 (F := Ideal) x1 = a6 at h6 ⊢
  generalize val_main_v131 (F := Ideal) x1 = a7 at h7 ⊢
  generalize val_main_v132 (F := Ideal) x1 = a8 at h8 ⊢
  generalize val_main_v133 (F := Ideal) x1 = a9 at h9 ⊢
  refine (cat10 ![a0, a1, a2, a3, a4, a5, a6, a7, a8, a9] b n f).trans ?_
  match f with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8
  | ⟨9, _⟩ => exact h9

theorem v4_apply (b : Fin 2) (n : Fin 4096) (e : Fin 3) : val_main_v4 (F := Ideal) x1 (ix3 b n e) = Ideal.liftRound Int.floor (x1 (ix3 b n e)) := by
  unfold val_main_v4 val_main_v3 val_main_v2 val_main_v1 val_main_v0 val_main_cst val_main_cst_0
  pointwise [div_one]

theorem v29_apply (b : Fin 2) (n : Fin 4096) (x : Fin 24) : val_main_v29 (F := Ideal) x1 (ix3 b n x)
    = KernelIdeal.Knn.encS (fun d => Ideal.liftRound Int.floor (x1 (ix3 b n d))) x := by
  unfold val_main_v29 KernelIdeal.Knn.encS
  pointwise [val_main_v7, val_main_v10, val_main_v13, val_main_v16, val_main_v19, val_main_v22, val_main_v25, val_main_v28, val_main_v6, val_main_v9,
    val_main_v12, val_main_v15, val_main_v18, val_main_v21, val_main_v24, val_main_v27, val_main_v5, val_main_v8, val_main_v11, val_main_v14, val_main_v17,
    val_main_v20, val_main_v23, val_main_v26, val_main_cst_1, val_main_cst_2, val_main_cst_3, val_main_cst_4, val_main_cst_5, val_main_cst_6, val_main_cst_7,
    val_main_cst_8, v4_apply]

/-- The forty channels of a neighbour, in the reference. -/
def chan (enc : Fin 24 → EReal) (ft : Fin 10 → EReal) (p : Fin 3 → EReal) (x : Fin 40) : EReal :=
  if h : x.val < 24 then enc ⟨x.val, h⟩
  else if h : x.val - 24 < 3 then p ⟨x.val - 24, h⟩
  else if x.val - 24 - 3 < 3 then 0
  else ft ⟨x.val - 24 - 3 - 3, by omega⟩

theorem v140_apply (b : Fin 2) (n : Fin 4096) (k : Fin 16) (x : Fin 40) : val_main_v140 (F := Ideal) x1 (ix4 b n k x)
    = chan (KernelIdeal.Knn.encS (fun d => Ideal.liftRound Int.floor (x1 (ix3 b n d)))) (featR (R x1 b n)) (R x1 b n k) x := by
  unfold val_main_v140 chan
  pointwise [val_main_v139, val_main_v138, val_main_v137, val_main_v136, val_main_v135, val_main_cst_37, v29_apply, v134_apply]
  rfl

section
variable (enc : Fin 24 → EReal) (ft : Fin 10 → EReal) (p : Fin 3 → EReal) (x : Fin 40)
theorem chan_off (h1 : ¬ x.val < 24) (h2 : x.val - 24 < 3) : chan enc ft p x = p ⟨x.val - 24, h2⟩ := by
  unfold chan; rw [dif_neg h1, dif_pos h2]
theorem chan_zero (h1 : ¬ x.val < 24) (h2 : ¬ x.val - 24 < 3) (h3 : x.val - 24 - 3 < 3) : chan enc ft p x = 0 := by
  unfold chan; rw [dif_neg h1, dif_neg h2, if_pos h3]
theorem chan_ft (h1 : ¬ x.val < 24) (h2 : ¬ x.val - 24 < 3) (h3 : ¬ x.val - 24 - 3 < 3) (f : Fin 10) (hf : f.val = x.val - 24 - 3 - 3) :
    chan enc ft p x = ft f := by
  unfold chan; rw [dif_neg h1, dif_neg h2, if_neg h3]; exact congrArg ft (Fin.ext hf.symm)
end

/-- A sum over the forty channels against weights: the encoding, the offset and the features. -/
theorem sum_chan (enc : Fin 24 → EReal) (ft : Fin 10 → EReal) (p : Fin 3 → EReal) (w : Fin 40 → EReal) (b : EReal) :
    (∑ x, chan enc ft p x * w x) + b = KernelIdeal.Knn.layer enc ft p w b := by
  have e : ∑ x, chan enc ft p x * w x = (∑ x : Fin 24, enc x * w (x.castLE (by decide))) + (∑ d : Fin 3, p d * w ⟨24 + d.val, by omega⟩)
      + (∑ f : Fin 10, ft f * w (Fin.natAdd 30 f)) := by
    have h1 := Fin.sum_univ_add (a := 24 + 3 + 3) (b := 10) fun x => chan enc ft p x * w x
    have h2 := Fin.sum_univ_add (a := 24 + 3) (b := 3) fun x => chan enc ft p (Fin.castAdd 10 x) * w (Fin.castAdd 10 x)
    have h3 := Fin.sum_univ_add (a := 24) (b := 3) fun x => chan enc ft p (Fin.castAdd 10 (Fin.castAdd 3 x)) * w (Fin.castAdd 10 (Fin.castAdd 3 x))
    refine h1.trans ?_
    rw [h2, h3]
    have z : ∑ f : Fin 3, chan enc ft p (Fin.castAdd 10 (Fin.natAdd (24 + 3) f)) * w (Fin.castAdd 10 (Fin.natAdd (24 + 3) f)) = 0 :=
      Finset.sum_eq_zero fun f _ => by
        have : chan enc ft p (Fin.castAdd 10 (Fin.natAdd (24 + 3) f)) = 0 := by
          have := f.isLt
          refine chan_zero enc ft p _ ?_ ?_ ?_
          · show ¬ 24 + 3 + f.val < 24; omega
          · show ¬ 24 + 3 + f.val - 24 < 3; omega
          · show 24 + 3 + f.val - 24 - 3 < 3; omega
        rw [this, zero_mul]
    rw [z, add_zero]
    refine congrArg₂ (· + ·) (congrArg₂ (· + ·) (Finset.sum_congr rfl fun x _ => ?_) (Finset.sum_congr rfl fun d _ => ?_)) (Finset.sum_congr rfl fun f _ => ?_)
    · refine congrArg (· * _) ?_
      exact dif_pos x.isLt
    · refine congrArg (· * _) ?_
      have := d.isLt
      refine (chan_off enc ft p _ ?_ ?_).trans (congrArg p (Fin.ext ?_))
      · show ¬ 24 + d.val < 24; omega
      · show 24 + d.val - 24 < 3; omega
      · show 24 + d.val - 24 = d.val; omega
    · refine congrArg (· * _) ?_
      have := f.isLt
      refine chan_ft enc ft p _ ?_ ?_ ?_ f ?_
      · show ¬ 24 + 3 + 3 + f.val < 24; omega
      · show ¬ 24 + 3 + 3 + f.val - 24 < 3; omega
      · show ¬ 24 + 3 + 3 + f.val - 24 - 3 < 3; omega
      · show f.val = 24 + 3 + 3 + f.val - 24 - 3 - 3; omega
  rw [e]
  unfold KernelIdeal.Knn.layer
  abel

/-- The first layer in the reference: channel `o` of neighbour `k` of a point. -/
theorem v146_apply (x2 : Vec Ideal S16x40 .f32) (x3 : Vec Ideal S16 .f32) (b : Fin 2) (o : Fin 16) (n : Fin 4096) (k : Fin 16) :
    val_main_v146 (F := Ideal) x1 x2 x3 (ix4 b o n k)
      = KernelIdeal.Knn.layer (KernelIdeal.Knn.encS (fun d => Ideal.liftRound Int.floor (x1 (ix3 b n d)))) (featR (R x1 b n)) (R x1 b n k)
          (fun x => x2 (ix2 o x)) (x3 (ix1 o)) := by
  rw [← sum_chan]
  unfold val_main_v146 val_main_v145 val_main_v144 val_main_v143 val_main_v142 val_main_v141
  pointwise [v140_apply, dot_S2x40x4096x16_S16x40_S2x4096x16x16_1_1_023_0_n_n]

end Cert.ReferenceIdeal.Rd

end

end
-- ==== Proof.Mid.lean ====
module

public import Idealize.ShloMosaic.Lib.Pipeline.ValueKit.Acc
public import Idealize.ShloMosaic.Lib.Pipeline.ValueKit.Geometry
public import Idealize.ShloMosaic.Lib.Pointwise
public import proofs.«01_k».proof.Proof.Gen.KernelIdeal.Frame
public import proofs.«01_k».proof.Proof.Ops

@[expose] public section

set_option maxRecDepth 16384

noncomputable section

/-! What the second launch leaves: the mixed features of every point, and their sums over all points. -/

namespace Cert.KernelIdeal.Mid

open Idealize.ShloMosaic Cert.KernelIdeal Cert.KernelIdeal.Gen Cert.Pf

/-- The number of neighbour slots of all points. -/
def cnt : EReal := Ideal.ofBits .f32 0x48000000#32

/-- The pooled position feature `q` of a point: of its sixteen neighbours' features `h`, each normalised and sent through
    the second layer, the greatest. -/
def pos (h : Fin 16 → Fin 16 → EReal) (a c : Fin 16 → EReal) (w : Fin 16 → Fin 16 → EReal) (b : Fin 16 → EReal) (q : Fin 16) : EReal :=
  Finset.univ.sup fun j => (∑ i, max (h j i * a i + c i) 0 * w i q) + b q

/-- The mixed feature `o` of a point, from its neighbours' features and its own. -/
def midV (h : Fin 16 → Fin 16 → EReal) (x : Fin 128 → EReal) (st : Vec Ideal S2x16 .f32) (g be : Vec Ideal S1x16 .f32)
    (w2 : Vec Ideal S16x16 .f32) (b2 : Vec Ideal S1x16 .f32) (wx : Vec Ideal S128x128 .f32) (wp : Vec Ideal S16x128 .f32)
    (bm : Vec Ideal S1x128 .f32) (o : Fin 128) : EReal :=
  (∑ k, x k * wx (ix2 k o))
    + (∑ q, pos h (fun i => bnA cnt (st (ix2 0 i)) (st (ix2 1 i)) (g (ix2 0 i)))
        (fun i => bnC cnt (st (ix2 0 i)) (st (ix2 1 i)) (g (ix2 0 i)) (be (ix2 0 i)))
        (fun i q => w2 (ix2 i q)) (fun q => b2 (ix2 0 q)) q * wp (ix2 q o))
    + bm (ix2 0 o)

/-- Lane `16 j + i`: channel `i` of neighbour slot `j`. -/
def lane (j i : Fin 16) : Fin 256 := ⟨16 * j.val + i.val, by omega⟩

theorem lane_zero (i : Fin 16) : lane 0 i = ⟨i.val, by omega⟩ := Fin.ext (by show 16 * 0 + i.val = i.val; omega)

section
variable (st : Vec Ideal S2x16 .f32) (g be : Vec Ideal S1x16 .f32)

theorem a_apply (i : Fin 16) : k1_pay4 st g (ix2 0 i) = bnA cnt (st (ix2 0 i)) (st (ix2 1 i)) (g (ix2 0 i)) := by
  pointwise [k1_pay4, k1_pay3, k1_pay2]; rfl

theorem c_apply (i : Fin 16) : k1_pay5 st g be (ix2 0 i) = bnC cnt (st (ix2 0 i)) (st (ix2 1 i)) (g (ix2 0 i)) (be (ix2 0 i)) := by
  pointwise [k1_pay5, k1_pay3, k1_pay2]; rw [a_apply]; rfl

variable (h : Vec Ideal S1x1024x256 .f32) (x : Vec Ideal S1x1024x128 .f32) (w2 : Vec Ideal S16x16 .f32) (b2 : Vec Ideal S1x16 .f32)
  (wx : Vec Ideal S128x128 .f32) (wp : Vec Ideal S16x128 .f32) (bm : Vec Ideal S1x128 .f32)

/-- The pooled features of a block before its last neighbour, as the body computes them. -/
def poolB : FVec Ideal S1024x16 .f32 :=
  k1_pay17 (k1_pay4 st g) (k1_pay5 st g be) (k1_pay6 h) (k1_pay7 w2) (k1_pay8 b2)
    (k1_pay14 (k1_pay4 st g) (k1_pay5 st g be) (k1_pay6 h) (k1_pay7 w2) (k1_pay8 b2)
      (k1_pay12 (k1_pay4 st g) (k1_pay5 st g be) (k1_pay6 h) (k1_pay7 w2) (k1_pay8 b2)
        (k1_pay9 st g be h w2 b2) (k1_pay10 st g h) (k1_pay11 st g be))
      (k1_pay13 (k1_pay4 st g) (k1_pay5 st g be) (k1_pay6 h) (k1_pay7 w2) (k1_pay8 b2)))
    (k1_pay15 (k1_pay4 st g) (k1_pay5 st g be) (k1_pay6 h)) k1_pay16

/-- The mixed features of a block, as the body computes them. -/
def mixB : FVec Ideal S1024x128 .f32 :=
  k1_pay20 (k1_pay5 st g be) (k1_pay7 w2) (k1_pay8 b2) (poolB st g be h w2 b2) (k1_pay18 (k1_pay6 h)) (k1_pay19 (k1_pay4 st g)) x wx wp bm

theorem mixB_apply (r : Fin 1024) (o : Fin 128) : mixB st g be h x w2 b2 wx wp bm (ix2 r o)
    = midV (fun j i => h (ix3 0 r (lane j i))) (fun k => x (ix3 0 r k)) st g be w2 b2 wx wp bm o := by
  unfold mixB poolB midV pos
  simp only [sup16]
  pointwise [k1_pay20, k1_pay17, k1_pay14, k1_pay12, k1_pay9, k1_pay10, k1_pay11, k1_pay13, k1_pay15, k1_pay16, k1_pay18, k1_pay19,
    k1_pay6, k1_pay7, k1_pay8, a_apply, c_apply, dot_S1024x16_S16x16_S1024x16_1_0_0_1_n_n, dot_S1024x16_S16x128_S1024x128_1_0_0_1_n_n,
    dot_S1024x128_S128x128_S1024x128_1_0_0_1_n_n]
  simp only [lane_zero]
  rfl

/-- A block's sums: over the rows in row 0, of the squares in row 1. -/
def statB (v : Fin 1024 → Fin 128 → EReal) (j : S2x128.Idx) : EReal :=
  if (j 0).val = 0 then ∑ r, v r (j 1) else ∑ r, v r (j 1) * v r (j 1)

theorem pay1_apply (acc : Vec Ideal S2x128 .f32) (j : S2x128.Idx) :
    k1_pay1
      (k1_pay22 (k1_pay5 st g be) (k1_pay7 w2) (k1_pay8 b2) (poolB st g be h w2 b2) (k1_pay18 (k1_pay6 h)) (k1_pay19 (k1_pay4 st g)) x wx wp bm)
      (k1_pay23 (k1_pay5 st g be) (k1_pay7 w2) (k1_pay8 b2) (poolB st g be h w2 b2) (k1_pay18 (k1_pay6 h)) (k1_pay19 (k1_pay4 st g)) x wx wp bm)
      acc j
      = acc j + statB (fun r o => midV (fun j i => h (ix3 0 r (lane j i))) (fun k => x (ix3 0 r k)) st g be w2 b2 wx wp bm o) j := by
  have e := fun r o => mixB_apply st g be h x w2 b2 wx wp bm r o
  unfold mixB at e
  obtain ⟨a, o, rfl⟩ : ∃ (a : Fin 2) (o : Fin 128), j = ix2 a o := ⟨j 0, j 1, by funext a; match a with | ⟨0, _⟩ => rfl | ⟨1, _⟩ => rfl⟩
  match a with
  | ⟨0, _⟩ => pointwise [k1_pay1, k1_pay22, k1_pay23, statB, e]
  | ⟨1, _⟩ => pointwise [k1_pay1, k1_pay22, k1_pay23, statB, e]

theorem pay21_apply (r : Fin 1024) (o : Fin 128) :
    k1_pay21 (k1_pay5 st g be) (k1_pay7 w2) (k1_pay8 b2) (poolB st g be h w2 b2) (k1_pay18 (k1_pay6 h)) (k1_pay19 (k1_pay4 st g)) x wx wp bm (ix3 0 r o)
      = midV (fun j i => h (ix3 0 r (lane j i))) (fun k => x (ix3 0 r k)) st g be w2 b2 wx wp bm o := by
  have e := fun r o => mixB_apply st g be h x w2 b2 wx wp bm r o
  unfold mixB at e
  pointwise [k1_pay21, e]

end

/-! ### The arrays -/

variable (V : (c : Dev nD) → (b : Ref sig .tc) → Buf (Elt Ideal) ((c.tc : Thread nD τ).loc b))

theorem idx0 : ∀ t : Fin cfg1.N, win1_0.index t 0 = t.val / 4 ∧ win1_0.index t 1 = t.val % 4 ∧ win1_0.index t 2 = 0 := by decide +kernel
theorem idx1 : ∀ t : Fin cfg1.N, win1_1.index t 0 = t.val / 4 ∧ win1_1.index t 1 = t.val % 4 ∧ win1_1.index t 2 = 0 := by decide +kernel
theorem idx10 : ∀ t : Fin cfg1.N, win1_10.index t 0 = t.val / 4 ∧ win1_10.index t 1 = t.val % 4 ∧ win1_10.index t 2 = 0 := by decide +kernel
theorem idxc : ∀ t : Fin cfg1.N, (∀ a, win1_2.index t a = 0) ∧ (∀ a, win1_3.index t a = 0) ∧ (∀ a, win1_4.index t a = 0)
    ∧ (∀ a, win1_5.index t a = 0) ∧ (∀ a, win1_6.index t a = 0) ∧ (∀ a, win1_7.index t a = 0) ∧ (∀ a, win1_8.index t a = 0)
    ∧ (∀ a, win1_9.index t a = 0) := by decide +kernel

theorem n1 : cfg1.N = 8 := N_1

/-- The cloud and the row that row `r` of point `t`'s block is. -/
def cloud (t : Fin cfg1.N) : Fin 2 := ⟨t.val / 4, by have := t.isLt; have := n1; omega⟩
def row (t : Fin cfg1.N) (r : Fin 1024) : Fin 4096 := ⟨t.val % 4 * 1024 + r.val, by omega⟩

theorem blk0 (c : Dev nD) (t : Fin cfg1.N) (r : Fin 1024) (k : Fin 256) :
    (iblk1 V c 0 t : Vec Ideal S1x1024x256 .f32) (ix3 0 r k) = (V c main_v17_0 : Vec Ideal S2x4096x256 .f32) (ix3 (cloud t) (row t r) k) := by
  unfold iblk1
  rw [View.read_apply]
  show (V c main_v17_0) _ = _
  refine congrArg (V c main_v17_0 : Vec Ideal S2x4096x256 .f32) (funext fun a => Fin.ext ?_)
  have h := idx0 t
  match a with
  | ⟨0, _⟩ => show win1_0.index t 0 * 1 + 1 * 0 = t.val / 4; rw [h.1]; omega
  | ⟨1, _⟩ => show win1_0.index t 1 * 1024 + 1 * r.val = t.val % 4 * 1024 + r.val; rw [h.2.1]; omega
  | ⟨2, _⟩ => show win1_0.index t 2 * 256 + 1 * k.val = k.val; rw [h.2.2]; omega

theorem blk1 (c : Dev nD) (t : Fin cfg1.N) (r : Fin 1024) (k : Fin 128) :
    (iblk1 V c 1 t : Vec Ideal S1x1024x128 .f32) (ix3 0 r k) = (V c main_v1 : Vec Ideal S2x4096x128 .f32) (ix3 (cloud t) (row t r) k) := by
  unfold iblk1
  rw [View.read_apply]
  show (V c main_v1) _ = _
  refine congrArg (V c main_v1 : Vec Ideal S2x4096x128 .f32) (funext fun a => Fin.ext ?_)
  have h := idx1 t
  match a with
  | ⟨0, _⟩ => show win1_1.index t 0 * 1 + 1 * 0 = t.val / 4; rw [h.1]; omega
  | ⟨1, _⟩ => show win1_1.index t 1 * 1024 + 1 * r.val = t.val % 4 * 1024 + r.val; rw [h.2.1]; omega
  | ⟨2, _⟩ => show win1_1.index t 2 * 128 + 1 * k.val = k.val; rw [h.2.2]; omega

theorem blk2 (c : Dev nD) (t : Fin cfg1.N) : (iblk1 V c 2 t : Vec Ideal S2x16 .f32) = V c main_v17_1 := by
  funext j; unfold iblk1; rw [View.read_apply]; show (V c main_v17_1) _ = _
  refine congrArg (V c main_v17_1 : Vec Ideal S2x16 .f32) (funext fun a => Fin.ext ?_)
  show win1_2.index t a * S2x16.size a + 1 * (j a).val = (j a).val
  rw [(idxc t).1 a]; omega

theorem blk3 (c : Dev nD) (t : Fin cfg1.N) : (iblk1 V c 3 t : Vec Ideal S1x16 .f32) = V c main_v10 := by
  funext j; unfold iblk1; rw [View.read_apply]; show (V c main_v10) _ = _
  refine congrArg (V c main_v10 : Vec Ideal S1x16 .f32) (funext fun a => Fin.ext ?_)
  show win1_3.index t a * S1x16.size a + 1 * (j a).val = (j a).val
  rw [(idxc t).2.1 a]; omega

theorem blk4 (c : Dev nD) (t : Fin cfg1.N) : (iblk1 V c 4 t : Vec Ideal S1x16 .f32) = V c main_v11 := by
  funext j; unfold iblk1; rw [View.read_apply]; show (V c main_v11) _ = _
  refine congrArg (V c main_v11 : Vec Ideal S1x16 .f32) (funext fun a => Fin.ext ?_)
  show win1_4.index t a * S1x16.size a + 1 * (j a).val = (j a).val
  rw [(idxc t).2.2.1 a]; omega

theorem blk5 (c : Dev nD) (t : Fin cfg1.N) : (iblk1 V c 5 t : Vec Ideal S16x16 .f32) = V c main_v3 := by
  funext j; unfold iblk1; rw [View.read_apply]; show (V c main_v3) _ = _
  refine congrArg (V c main_v3 : Vec Ideal S16x16 .f32) (funext fun a => Fin.ext ?_)
  show win1_5.index t a * S16x16.size a + 1 * (j a).val = (j a).val
  rw [(idxc t).2.2.2.1 a]; omega

theorem blk6 (c : Dev nD) (t : Fin cfg1.N) : (iblk1 V c 6 t : Vec Ideal S1x16 .f32) = V c main_v12 := by
  funext j; unfold iblk1; rw [View.read_apply]; show (V c main_v12) _ = _
  refine congrArg (V c main_v12 : Vec Ideal S1x16 .f32) (funext fun a => Fin.ext ?_)
  show win1_6.index t a * S1x16.size a + 1 * (j a).val = (j a).val
  rw [(idxc t).2.2.2.2.1 a]; omega

theorem blk7 (c : Dev nD) (t : Fin cfg1.N) : (iblk1 V c 7 t : Vec Ideal S128x128 .f32) = V c main_v5 := by
  funext j; unfold iblk1; rw [View.read_apply]; show (V c main_v5) _ = _
  refine congrArg (V c main_v5 : Vec Ideal S128x128 .f32) (funext fun a => Fin.ext ?_)
  show win1_7.index t a * S128x128.size a + 1 * (j a).val = (j a).val
  rw [(idxc t).2.2.2.2.2.1 a]; omega

theorem blk8 (c : Dev nD) (t : Fin cfg1.N) : (iblk1 V c 8 t : Vec Ideal S16x128 .f32) = V c main_v7 := by
  funext j; unfold iblk1; rw [View.read_apply]; show (V c main_v7) _ = _
  refine congrArg (V c main_v7 : Vec Ideal S16x128 .f32) (funext fun a => Fin.ext ?_)
  show win1_8.index t a * S16x128.size a + 1 * (j a).val = (j a).val
  rw [(idxc t).2.2.2.2.2.2.1 a]; omega

theorem blk9 (c : Dev nD) (t : Fin cfg1.N) : (iblk1 V c 9 t : Vec Ideal S1x128 .f32) = V c main_v13 := by
  funext j; unfold iblk1; rw [View.read_apply]; show (V c main_v13) _ = _
  refine congrArg (V c main_v13 : Vec Ideal S1x128 .f32) (funext fun a => Fin.ext ?_)
  show win1_9.index t a * S1x128.size a + 1 * (j a).val = (j a).val
  rw [(idxc t).2.2.2.2.2.2.2 a]; omega

/-- The mixed feature `o` of point `n` of cloud `b`, from the launch's operands. -/
def midA (c : Dev nD) (b : Fin 2) (n : Fin 4096) (o : Fin 128) : EReal :=
  midV (fun j i => (V c main_v17_0 : Vec Ideal S2x4096x256 .f32) (ix3 b n (lane j i))) (fun k => (V c main_v1 : Vec Ideal S2x4096x128 .f32) (ix3 b n k))
    (V c main_v17_1) (V c main_v10) (V c main_v11) (V c main_v3) (V c main_v12) (V c main_v5) (V c main_v7) (V c main_v13) o

/-- The block of the mixed features at point `t`. -/
theorem blkV (c : Dev nD) (t : Fin cfg1.N) (r : Fin 1024) (o : Fin 128) :
    midV (fun j i => (iblk1 V c 0 t : Vec Ideal S1x1024x256 .f32) (ix3 0 r (lane j i))) (fun k => (iblk1 V c 1 t : Vec Ideal S1x1024x128 .f32) (ix3 0 r k))
      (iblk1 V c 2 t) (iblk1 V c 3 t) (iblk1 V c 4 t) (iblk1 V c 5 t) (iblk1 V c 6 t) (iblk1 V c 7 t) (iblk1 V c 8 t) (iblk1 V c 9 t) o
      = midA V c (cloud t) (row t r) o := by
  rw [blk2, blk3, blk4, blk5, blk6, blk7, blk8, blk9]
  simp only [blk0, blk1]
  rfl

theorem outs_hm (c : Dev nD) (t : Fin cfg1.N) (r : Fin 1024) (o : Fin 128) :
    (outsAt1 V c t.val t.isLt).1 (ix3 0 r o) = midA V c (cloud t) (row t r) o := by
  rw [← blkV]
  by_cases h : t.val % 8 = 0
  · rw [outsAt1_A V c t h]; frame_out; exact pay21_apply ..
  · rw [outsAt1_B V c t h]; frame_out; exact pay21_apply ..

/-- The sums a point adds. -/
def term (c : Dev nD) (t : Fin cfg1.N) (j : S2x128.Idx) : EReal := statB (fun r o => midA V c (cloud t) (row t r) o) j

theorem outs_st (c : Dev nD) (t : Fin cfg1.N) (h : t.val + 1 = cfg1.N) (j : S2x128.Idx) :
    (outsAt1 V c t.val t.isLt).2 j = ∑ p : Fin cfg1.N, term V c p j := by
  rw [Pipeline.eq_sum_fin_of_reset_step_apply_last (fun n h => (outsAt1 V c n h).2) 8 (fun _ => 0) (term V c)
    (fun t h j => by
      rw [outsAt1_A V c t h]; frame_out
      refine (pay1_apply ..).trans ?_
      simp only [blkV]
      rw [show k1_pay24 (F := Ideal) j = 0 from by pointwise [k1_pay24]]
      rfl)
    (fun t h j => by
      rw [outsAt1_B V c t h]; frame_out
      refine (pay1_apply ..).trans ?_
      simp only [blkV]
      rfl) (le_of_eq n1) t h j, zero_add]

/-- The mixed features of all points. -/
def hmA (c : Dev nD) : Vec Ideal S2x4096x128 .f32 := fun i => midA V c (i 0) (i 1) (i 2)

/-- Their sums, and the sums of their squares. -/
def stA (c : Dev nD) : Vec Ideal S2x128 .f32 := fun j =>
  if (j 0).val = 0 then ∑ b, ∑ n, midA V c b n (j 1) else ∑ b, ∑ n, midA V c b n (j 1) * midA V c b n (j 1)

theorem sum_points (g : Fin 2 → Fin 4096 → EReal) : ∑ t : Fin cfg1.N, ∑ r : Fin 1024, g (cloud t) (row t r) = ∑ b, ∑ n, g b n :=
  Fin.sum_points_lanes_fin 4 g n1 rfl

theorem st_eq (c : Dev nD) (j : S2x128.Idx) : ∑ p : Fin cfg1.N, term V c p j = stA V c j := by
  unfold term statB stA
  split
  · exact sum_points fun b n => midA V c b n (j 1)
  · exact sum_points fun b n => midA V c b n (j 1) * midA V c b n (j 1)

theorem emb10 (t : Fin cfg1.N) (j : S1x1024x128.Idx) :
    (((cfg1.win 10).blk t).view.emb j : S2x4096x128.Idx) = ix3 (cloud t) (row t (j 1)) (j 2) := by
  funext a
  apply Fin.ext
  have h := idx10 t
  have h0 : (j 0).val < 1 := (j 0).isLt
  match a with
  | ⟨0, _⟩ => show win1_10.index t 0 * 1 + 1 * (j 0).val = t.val / 4; rw [h.1]; omega
  | ⟨1, _⟩ => show win1_10.index t 1 * 1024 + 1 * (j 1).val = t.val % 4 * 1024 + (j 1).val; rw [h.2.1]; omega
  | ⟨2, _⟩ => show win1_10.index t 2 * 128 + 1 * (j 2).val = (j 2).val; rw [h.2.2]; omega

theorem at_point (c : Dev nD) (t : Fin cfg1.N) (j : S1x1024x128.Idx) :
    (outsAt1 V c t.val t.isLt).1 j = midA V c (cloud t) (row t (j 1)) (j 2) := by
  obtain ⟨r, o, rfl⟩ : ∃ (r : Fin 1024) (o : Fin 128), j = ix3 (0 : Fin 1) r o := ⟨j 1, j 2, by
    funext a
    match a with
    | ⟨0, _⟩ => exact Subsingleton.elim (α := Fin 1) _ _
    | ⟨1, _⟩ => rfl
    | ⟨2, _⟩ => rfl⟩
  exact outs_hm V c t r o

theorem covers10 : (cfg1.win 10).Covers := by decide +kernel

theorem hcov (i : S2x4096x128.Idx) : ∃ t : Fin cfg1.N, (cfg1.win 10).flush t = true ∧ i ∈ ((cfg1.win 10).blk t).view.set :=
  Pipeline.Window.Covers.cover _ covers10 (Memref.isWhole_whole _) i

theorem hflush (c : Dev nD) (t : Fin cfg1.N) : (dat1 V c).flushed 10 t = ((cfg1.win 10).blk t).view.read (Elt Ideal) (hmA V c) := by
  show (cfg1.win 10).cut (grid1.coords t) ((dat1 V c).after 10 t) = _
  rw [after1_10]
  funext y
  refine (at_point V c t y).trans ?_
  rw [View.read_apply]
  exact (congrArg (hmA V c) (emb10 t y)).symm

theorem final_hm (c : Dev nD) : (dat1 V c).arrAt 10 cfg1.N = hmA V c :=
  (dat1 V c).arrAt_eq_of_cover 10 (hmA V c) (fun t _ => hflush V c t) hcov

theorem covers11 : (cfg1.win 11).Covers := by decide +kernel

theorem hcov11 (i : S2x128.Idx) : ∃ t : Fin cfg1.N, (cfg1.win 11).flush t = true ∧ i ∈ ((cfg1.win 11).blk t).view.set :=
  Pipeline.Window.Covers.cover _ covers11 (Memref.isWhole_whole _) i

theorem idx11 : ∀ t : Fin cfg1.N, ∀ a, win1_11.index t a = 0 := by decide +kernel

theorem emb11 (t : Fin cfg1.N) (j : S2x128.Idx) : (((cfg1.win 11).blk t).view.emb j : S2x128.Idx) = j := by
  funext a
  apply Fin.ext
  show win1_11.index t a * S2x128.size a + 1 * (j a).val = (j a).val
  rw [idx11 t a]; omega

theorem hflush11 (c : Dev nD) (t : Fin cfg1.N) (h : (cfg1.win 11).flush t = true) :
    (dat1 V c).flushed 11 t = ((cfg1.win 11).blk t).view.read (Elt Ideal) (stA V c) := by
  show (cfg1.win 11).cut (grid1.coords t) ((dat1 V c).after 11 t) = _
  rw [after1_11]
  funext y
  have h7 := (flush1_11 t).mp h
  have hl := t.isLt
  have := n1
  refine ((outs_st V c t (by omega) y).trans (st_eq V c y)).trans ?_
  rw [View.read_apply]
  exact (congrArg (stA V c) (emb11 t y)).symm

theorem final_st (c : Dev nD) : (dat1 V c).arrAt 11 cfg1.N = stA V c :=
  (dat1 V c).arrAt_eq_of_cover 11 (stA V c) (fun t h => hflush11 V c t h) hcov11

end Cert.KernelIdeal.Mid

end

end
-- ==== Proof.Out.lean ====
module

public import Idealize.ShloMosaic.Lib.Pipeline.ValueKit.Geometry
public import proofs.«01_k».proof.Proof.Gen.KernelIdeal.Frame
public import proofs.«01_k».proof.Proof.Ops
public import Idealize.ShloMosaic.Lib.Tactic

@[expose] public section

set_option maxRecDepth 16384

noncomputable section

/-! What the third launch leaves in a block of its result. -/

namespace Cert.KernelIdeal.Out

open Idealize.ShloMosaic Idealize.ShloMosaic.ValueIdx Cert.KernelIdeal Cert.KernelIdeal.Gen Cert.Pf

/-- The number of points of both clouds. -/
def cnt : EReal := Ideal.ofBits .f32 0x46000000#32

theorem pay2_apply (v0 : Vec Ideal S2x128 .f32) (v10 v16 : Vec Ideal S1x128 .f32) (v20 : Vec Ideal S1x2048x128 .f32)
    (v28 : Vec Ideal S128x128 .f32) (v31 : Vec Ideal S1x128 .f32) (r : Fin 2048) (o : Fin 128) :
    k2_pay2 v0 v10 v16 v20 v28 v31 (ix2 r o)
      = (∑ c : Fin 128, max (v20 (ix3 (0 : Fin 1) r c) * bnA cnt (v0 (ix2 0 c)) (v0 (ix2 1 c)) (v10 (ix2 0 c))
          + bnC cnt (v0 (ix2 0 c)) (v0 (ix2 1 c)) (v10 (ix2 0 c)) (v16 (ix2 0 c))) 0 * v28 (ix2 c o)) + v31 (ix2 0 o) := by
  unfold k2_pay2
  simp only [shapeCast_self]
  rw [addf_apply, broadcastTo_1b_ab_apply]
  refine congrArg (· + _) ?_
  refine (Ideal.matmul_plain_apply none _ _ _ r o).trans ?_
  rw [constant_apply, Ideal.ofBits_zero_f32, zero_add]
  refine Finset.sum_congr rfl fun c _ => congrArg (· * _) ?_
  rw [maximumf_apply, addf_apply, mulf_apply, broadcastTo_1b_ab_apply, broadcastTo_1b_ab_apply, shapeCast_1ab_ab_apply]
  simp only [subf_apply, mulf_apply, divf_apply, addf_apply, rsqrt_at, splat_at, slice2_axis0_eq, Ideal.ofBits_zero_f32]
  rfl

theorem out_apply (x0 : Vec Ideal S1x2048x128 .f32) (x1 : Vec Ideal S2x128 .f32) (x2 x3 : Vec Ideal S1x128 .f32)
    (x4 : Vec Ideal S128x128 .f32) (x5 : Vec Ideal S1x128 .f32) (r : Fin 2048) (o : Fin 128) :
    out2_6 x0 x1 x2 x3 x4 x5 (ix3 0 r o)
      = (∑ c : Fin 128, max (x0 (ix3 (0 : Fin 1) r c) * bnA cnt (x1 (ix2 0 c)) (x1 (ix2 1 c)) (x2 (ix2 0 c))
          + bnC cnt (x1 (ix2 0 c)) (x1 (ix2 1 c)) (x2 (ix2 0 c)) (x3 (ix2 0 c))) 0 * x4 (ix2 c o)) + x5 (ix2 0 o) := by
  unfold out2_6
  rw [View.canon_unit_zero zero3]
  simp only [View.ld_unit_zero (S := S1x2048x128) zero3, View.ld_unit_zero (S := S2x128) zero2, View.ld_unit_zero (S := S1x128) zero2,
    View.ld_unit_zero (S := S128x128) zero2]
  unfold k2_pay1
  rw [shapeCast_ab_1ab_apply]
  exact pay2_apply _ _ _ _ _ _ r o

/-- The third launch's result at an index, from its operand arrays. -/
def outF (hm : Vec Ideal S2x4096x128 .f32) (st : Vec Ideal S2x128 .f32) (g be : Vec Ideal S1x128 .f32) (w : Vec Ideal S128x128 .f32)
    (b : Vec Ideal S1x128 .f32) (i : Fin 2) (n : Fin 4096) (o : Fin 128) : EReal :=
  (∑ c : Fin 128, max (hm (ix3 i n c) * bnA cnt (st (ix2 0 c)) (st (ix2 1 c)) (g (ix2 0 c))
    + bnC cnt (st (ix2 0 c)) (st (ix2 1 c)) (g (ix2 0 c)) (be (ix2 0 c))) 0 * w (ix2 c o)) + b (ix2 0 o)

variable (V : (c : Dev nD) → (b : Ref sig .tc) → Buf (Elt Ideal) ((c.tc : Thread nD τ).loc b))

theorem idx0 : ∀ t : Fin cfg2.N, win2_0.index t 0 = t.val / 2 ∧ win2_0.index t 1 = t.val % 2 ∧ win2_0.index t 2 = 0 := by decide +kernel
theorem idx6 : ∀ t : Fin cfg2.N, win2_6.index t 0 = t.val / 2 ∧ win2_6.index t 1 = t.val % 2 ∧ win2_6.index t 2 = 0 := by decide +kernel
theorem idx1 : ∀ t : Fin cfg2.N, (∀ a, win2_1.index t a = 0) ∧ (∀ a, win2_2.index t a = 0) ∧ (∀ a, win2_3.index t a = 0)
    ∧ (∀ a, win2_4.index t a = 0) ∧ (∀ a, win2_5.index t a = 0) := by decide +kernel

/-- The cloud and the row that row `r` of point `t`'s block is. -/
def cloud (t : Fin cfg2.N) : Fin 2 := ⟨t.val / 2, by have := t.isLt; have h : cfg2.N = 4 := N_2; omega⟩
def row (t : Fin cfg2.N) (r : Fin 2048) : Fin 4096 := ⟨t.val % 2 * 2048 + r.val, by omega⟩

theorem blk0 (c : Dev nD) (t : Fin cfg2.N) (r : Fin 2048) (k : Fin 128) :
    (iblk2 V c 0 t : Vec Ideal S1x2048x128 .f32) (ix3 (0 : Fin 1) r k) = (V c main_v18_0 : Vec Ideal S2x4096x128 .f32) (ix3 (cloud t) (row t r) k) := by
  unfold iblk2
  rw [View.read_apply]
  show (V c main_v18_0) _ = _
  refine congrArg (V c main_v18_0 : Vec Ideal S2x4096x128 .f32) (funext fun a => Fin.ext ?_)
  have h := idx0 t
  match a with
  | ⟨0, _⟩ => show win2_0.index t 0 * 1 + 1 * 0 = t.val / 2; rw [h.1]; omega
  | ⟨1, _⟩ => show win2_0.index t 1 * 2048 + 1 * r.val = t.val % 2 * 2048 + r.val; rw [h.2.1]; omega
  | ⟨2, _⟩ => show win2_0.index t 2 * 128 + 1 * k.val = k.val; rw [h.2.2]; omega

theorem blk1 (c : Dev nD) (t : Fin cfg2.N) : (iblk2 V c 1 t : Vec Ideal S2x128 .f32) = V c main_v18_1 := by
  funext j; unfold iblk2; rw [View.read_apply]; show (V c main_v18_1) _ = _
  refine congrArg (V c main_v18_1 : Vec Ideal S2x128 .f32) (funext fun a => Fin.ext ?_)
  show win2_1.index t a * S2x128.size a + 1 * (j a).val = (j a).val
  rw [(idx1 t).1 a]; omega

theorem blk2 (c : Dev nD) (t : Fin cfg2.N) : (iblk2 V c 2 t : Vec Ideal S1x128 .f32) = V c main_v14 := by
  funext j; unfold iblk2; rw [View.read_apply]; show (V c main_v14) _ = _
  refine congrArg (V c main_v14 : Vec Ideal S1x128 .f32) (funext fun a => Fin.ext ?_)
  show win2_2.index t a * S1x128.size a + 1 * (j a).val = (j a).val
  rw [(idx1 t).2.1 a]; omega

theorem blk3 (c : Dev nD) (t : Fin cfg2.N) : (iblk2 V c 3 t : Vec Ideal S1x128 .f32) = V c main_v15 := by
  funext j; unfold iblk2; rw [View.read_apply]; show (V c main_v15) _ = _
  refine congrArg (V c main_v15 : Vec Ideal S1x128 .f32) (funext fun a => Fin.ext ?_)
  show win2_3.index t a * S1x128.size a + 1 * (j a).val = (j a).val
  rw [(idx1 t).2.2.1 a]; omega

theorem blk4 (c : Dev nD) (t : Fin cfg2.N) : (iblk2 V c 4 t : Vec Ideal S128x128 .f32) = V c main_v8 := by
  funext j; unfold iblk2; rw [View.read_apply]; show (V c main_v8) _ = _
  refine congrArg (V c main_v8 : Vec Ideal S128x128 .f32) (funext fun a => Fin.ext ?_)
  show win2_4.index t a * S128x128.size a + 1 * (j a).val = (j a).val
  rw [(idx1 t).2.2.2.1 a]; omega

theorem blk5 (c : Dev nD) (t : Fin cfg2.N) : (iblk2 V c 5 t : Vec Ideal S1x128 .f32) = V c main_v16 := by
  funext j; unfold iblk2; rw [View.read_apply]; show (V c main_v16) _ = _
  refine congrArg (V c main_v16 : Vec Ideal S1x128 .f32) (funext fun a => Fin.ext ?_)
  show win2_5.index t a * S1x128.size a + 1 * (j a).val = (j a).val
  rw [(idx1 t).2.2.2.2 a]; omega

theorem emb6 (t : Fin cfg2.N) (j : S1x2048x128.Idx) :
    (((cfg2.win 6).blk t).view.emb j : S2x4096x128.Idx) = ix3 (cloud t) (row t (j 1)) (j 2) := by
  funext a
  apply Fin.ext
  have h := idx6 t
  have h0 : (j 0).val < 1 := (j 0).isLt
  match a with
  | ⟨0, _⟩ => show win2_6.index t 0 * 1 + 1 * (j 0).val = t.val / 2; rw [h.1]; omega
  | ⟨1, _⟩ => show win2_6.index t 1 * 2048 + 1 * (j 1).val = t.val % 2 * 2048 + (j 1).val; rw [h.2.1]; omega
  | ⟨2, _⟩ => show win2_6.index t 2 * 128 + 1 * (j 2).val = (j 2).val; rw [h.2.2]; omega

theorem at_point (c : Dev nD) (t : Fin cfg2.N) (j : S1x2048x128.Idx) :
    out2_6 (iblk2 V c 0 t) (iblk2 V c 1 t) (iblk2 V c 2 t) (iblk2 V c 3 t) (iblk2 V c 4 t) (iblk2 V c 5 t) j
      = outF (V c main_v18_0) (V c main_v18_1) (V c main_v14) (V c main_v15) (V c main_v8) (V c main_v16) (cloud t) (row t (j 1)) (j 2) := by
  obtain ⟨r, o, rfl⟩ : ∃ (r : Fin 2048) (o : Fin 128), j = ix3 (0 : Fin 1) r o := ⟨j 1, j 2, by
    funext a
    match a with
    | ⟨0, _⟩ => exact Subsingleton.elim (α := Fin 1) _ _
    | ⟨1, _⟩ => rfl
    | ⟨2, _⟩ => rfl⟩
  refine (out_apply _ _ _ _ _ _ r o).trans ?_
  rw [blk1, blk2, blk3, blk4, blk5]
  show _ = outF _ _ _ _ _ _ (cloud t) (row t r) o
  unfold outF
  simp only [blk0]

/-- The third launch's result array, and it at a point. -/
def outA (c : Dev nD) : Vec Ideal S2x4096x128 .f32 := fun i =>
  outF (V c main_v18_0) (V c main_v18_1) (V c main_v14) (V c main_v15) (V c main_v8) (V c main_v16) (i 0) (i 1) (i 2)

theorem covers6 : (cfg2.win 6).Covers := by decide +kernel

theorem hcov (i : S2x4096x128.Idx) : ∃ t : Fin cfg2.N, (cfg2.win 6).flush t = true ∧ i ∈ ((cfg2.win 6).blk t).view.set :=
  Pipeline.Window.Covers.cover _ covers6 (Memref.isWhole_whole _) i

theorem hflush (c : Dev nD) (t : Fin cfg2.N) : (dat2 V c).flushed 6 t = ((cfg2.win 6).blk t).view.read (Elt Ideal) (outA V c) := by
  show (cfg2.win 6).cut (grid2.coords t) ((dat2 V c).after 6 t) = _
  rw [after2_6]
  funext y
  refine (at_point V c t y).trans ?_
  rw [View.read_apply]
  exact (congrArg (outA V c) (emb6 t y)).symm

theorem final (c : Dev nD) : (dat2 V c).arrAt 6 cfg2.N = outA V c :=
  (dat2 V c).arrAt_eq_of_cover 6 (outA V c) (fun t _ => hflush V c t) hcov

end Cert.KernelIdeal.Out

end

end
-- ==== Proof.RefTail.lean ====
module

public import proofs.«01_k».proof.Proof.RefFeat
public import proofs.«01_k».proof.Proof.Mid
public import proofs.«01_k».proof.Proof.Out

@[expose] public section

set_option maxRecDepth 16384

noncomputable section

/-! The reference after the first layer, entry by entry: two batch normalisations by deviations, the pooling and the two mixing layers. -/

namespace Cert.Pf

open Idealize.ShloMosaic

/-- A value normalised by a mean and a variance. -/
def bnR (m v h g be : EReal) : EReal := Ideal.div (h - m) (Ideal.sqrt (v + epsBn)) * g + be

end Cert.Pf

namespace Cert.ReferenceIdeal.Rd

open Idealize.ShloMosaic Cert.ReferenceIdeal.Read Cert.Pf

/-- A sum over all axes of four but the second, read by coordinates. -/
theorem sum_but_second4 (h : S2x16x4096x16.ReducesTo [0, 2, 3] S16) (v : Vec Ideal S2x16x4096x16 .f32) (init : EReal) (o : Fin 16) :
    Ideal.hostReduceAdd h v init (ix1 o) = init + ∑ b : Fin 2, ∑ n : Fin 4096, ∑ k : Fin 16, v (ix4 b o n k) := by
  refine congrArg (init + ·) ?_
  refine (Finset.sum_filter_eq_sum_of_fiber _ (fun q : Fin 2 × Fin 4096 × Fin 16 => (ix4 q.1 o q.2.1 q.2.2 : S2x16x4096x16.Idx))
    (fun _ _ e => Prod.ext (congrFun e 0) (Prod.ext (congrFun e 2) (congrFun e 3))) (fun i => ?_) v).trans ?_
  · constructor
    · intro e
      refine ⟨(i 0, i 2, i 3), ?_⟩
      funext a; apply Fin.ext
      match a with
      | ⟨0, _⟩ => rfl
      | ⟨1, _⟩ => exact (congrArg Fin.val (congrFun e 0)).symm
      | ⟨2, _⟩ => rfl
      | ⟨3, _⟩ => rfl
    · rintro ⟨q, rfl⟩
      funext a; apply Fin.ext
      match a with
      | ⟨0, _⟩ => rfl
  · simp only [Fintype.sum_prod_type]

/-- A sum over both axes of three but the second, read by coordinates. -/
theorem sum_but_second3 (h : S2x128x4096.ReducesTo [0, 2] S128) (v : Vec Ideal S2x128x4096 .f32) (init : EReal) (o : Fin 128) :
    Ideal.hostReduceAdd h v init (ix1 o) = init + ∑ b : Fin 2, ∑ n : Fin 4096, v (ix3 b o n) := by
  refine congrArg (init + ·) ?_
  refine (Finset.sum_filter_eq_sum_of_fiber _ (fun q : Fin 2 × Fin 4096 => (ix3 q.1 o q.2 : S2x128x4096.Idx))
    (fun _ _ e => Prod.ext (congrFun e 0) (congrFun e 2)) (fun i => ?_) v).trans ?_
  · constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨q, rfl⟩
      funext a; apply Fin.ext
      match a with
      | ⟨0, _⟩ => rfl
  · simp only [Fintype.sum_prod_type]

section
variable (H : Fin 2 → Fin 16 → Fin 4096 → Fin 16 → EReal)

/-- The mean and the variance of a channel of the first layer. -/
def mu1 (o : Fin 16) : EReal := Ideal.div (∑ b, ∑ n, ∑ k, H b o n k) KernelIdeal.Mid.cnt
def var1 (o : Fin 16) : EReal := Ideal.div (∑ b, ∑ n, ∑ k, (H b o n k - mu1 H o) * (H b o n k - mu1 H o)) KernelIdeal.Mid.cnt

/-- The pooled position feature. -/
def posR (g be : Fin 16 → EReal) (w : Fin 16 → Fin 16 → EReal) (b2 : Fin 16 → EReal) (b : Fin 2) (n : Fin 4096) (q : Fin 16) : EReal :=
  Finset.univ.sup fun k => (∑ i, max (bnR (mu1 H i) (var1 H i) (H b i n k) (g i) (be i)) 0 * w i q) + b2 q
end

section
variable (M : Fin 2 → Fin 128 → Fin 4096 → EReal)

/-- The mean and the variance of a mixed channel. -/
def mu2 (o : Fin 128) : EReal := Ideal.div (∑ b, ∑ n, M b o n) KernelIdeal.Out.cnt
def var2 (o : Fin 128) : EReal := Ideal.div (∑ b, ∑ n, (M b o n - mu2 M o) * (M b o n - mu2 M o)) KernelIdeal.Out.cnt

/-- The result, from the mixed channels. -/
def outR (g be : Fin 128 → EReal) (w : Fin 128 → Fin 128 → EReal) (b2 : Fin 128 → EReal) (b : Fin 2) (n : Fin 4096) (o : Fin 128) : EReal :=
  (∑ c, max (bnR (mu2 M c) (var2 M c) (M b c n) (g c) (be c)) 0 * w c o) + b2 o
end

variable (x0 : Vec Ideal S2x128x4096 .f32) (x1 : Vec Ideal S2x4096x3 .f32) (x2 : Vec Ideal S16x40 .f32) (x3 x4 x5 : Vec Ideal S16 .f32)
  (x6 : Vec Ideal S16x16 .f32) (x7 : Vec Ideal S16 .f32) (x8 : Vec Ideal S128x144 .f32) (x9 x10 x11 : Vec Ideal S128 .f32)
  (x12 : Vec Ideal S128x128 .f32) (x13 : Vec Ideal S128 .f32)

/-- The first layer in the reference. -/
def H1 (b : Fin 2) (o : Fin 16) (n : Fin 4096) (k : Fin 16) : EReal := val_main_v146 (F := Ideal) x1 x2 x3 (ix4 b o n k)

theorem v149_apply (o : Fin 16) : val_main_v149 (F := Ideal) x1 x2 x3 (ix1 o) = mu1 (H1 x1 x2 x3) o := by
  unfold val_main_v149 val_main_v148 val_main_v147 val_main_cst_38 val_main_cst_39 mu1 H1
  pointwise [sum_but_second4]
  rfl

theorem v156_apply (o : Fin 16) : val_main_v156 (F := Ideal) x1 x2 x3 (ix1 o) = var1 (H1 x1 x2 x3) o := by
  unfold val_main_v156 val_main_v155 val_main_v154 val_main_v153 val_main_v152 val_main_v151 val_main_v150 val_main_cst_40 val_main_cst_41 var1
  pointwise [sum_but_second4, v149_apply]
  rfl

theorem v178_apply (b : Fin 2) (q : Fin 16) (n : Fin 4096) : val_main_v178 (F := Ideal) x1 x2 x3 x4 x5 x6 x7 (ix3 b q n)
    = posR (H1 x1 x2 x3) (fun i => x4 (ix1 i)) (fun i => x5 (ix1 i)) (fun i q => x6 (ix2 q i)) (fun q => x7 (ix1 q)) b n q := by
  unfold posR bnR
  pointwise [val_main_v178, val_main_v177, val_main_v176, val_main_v175, val_main_v174, val_main_v173, val_main_v172, val_main_v171, val_main_v170, val_main_v169,
    val_main_v168, val_main_v167, val_main_v166, val_main_v165, val_main_v164, val_main_v163, val_main_v162, val_main_v161, val_main_v160, val_main_v159, val_main_v158,
    val_main_v157, val_main_v150, val_main_cst_42, val_main_cst_43, val_main_cst_44, v149_apply, v156_apply, ofBits_ninf, fold_max_sup,
    dot_S2x16x4096x16_S16x16_S2x4096x16x16_1_1_023_0_n_n]
  rfl

/-- The mixed channels in the reference. -/
def M1 (b : Fin 2) (o : Fin 128) (n : Fin 4096) : EReal := val_main_v184 (F := Ideal) x0 x1 x2 x3 x4 x5 x6 x7 x8 x9 (ix3 b o n)

theorem M1_eq (b : Fin 2) (o : Fin 128) (n : Fin 4096) : M1 x0 x1 x2 x3 x4 x5 x6 x7 x8 x9 b o n
    = (∑ k : Fin 128, x0 (ix3 b k n) * x8 (ix2 o (Fin.castAdd 16 k)))
      + (∑ q, posR (H1 x1 x2 x3) (fun i => x4 (ix1 i)) (fun i => x5 (ix1 i)) (fun i q => x6 (ix2 q i)) (fun q => x7 (ix1 q)) b n q * x8 (ix2 o (Fin.natAdd 128 q)))
      + x9 (ix1 o) := by
  have e := Fin.sum_univ_add (a := 128) (b := 16) fun x => val_main_v179 (F := Ideal) x0 x1 x2 x3 x4 x5 x6 x7 (ix3 b x n) * x8 (ix2 o x)
  have ea (k : Fin 128) : val_main_v179 (F := Ideal) x0 x1 x2 x3 x4 x5 x6 x7 (ix3 b (Fin.castAdd 16 k) n) = x0 (ix3 b k n) := by
    unfold val_main_v179
    pointwise
    exact dif_pos k.isLt
  have eb (q : Fin 16) : val_main_v179 (F := Ideal) x0 x1 x2 x3 x4 x5 x6 x7 (ix3 b (Fin.natAdd 128 q) n)
      = val_main_v178 (F := Ideal) x1 x2 x3 x4 x5 x6 x7 (ix3 b q n) := by
    unfold val_main_v179
    pointwise
    refine (dif_neg (Nat.not_lt.mpr (Nat.le_add_right 128 q.val))).trans ?_
    refine congrArg (fun r => val_main_v178 (F := Ideal) x1 x2 x3 x4 x5 x6 x7 (ix3 b r n)) (Fin.ext ?_)
    exact Nat.add_sub_cancel_left 128 q.val
  simp only [ea, eb, v178_apply] at e
  unfold M1
  pointwise [val_main_v184, val_main_v183, val_main_v182, val_main_v181, val_main_v180, dot_S2x144x4096_S128x144_S2x4096x128_1_1_02_0_n_n]
  exact congrArg (· + _) e

theorem v187_apply (o : Fin 128) : val_main_v187 (F := Ideal) x0 x1 x2 x3 x4 x5 x6 x7 x8 x9 (ix1 o) = mu2 (M1 x0 x1 x2 x3 x4 x5 x6 x7 x8 x9) o := by
  unfold val_main_v187 val_main_v186 val_main_v185 val_main_cst_45 val_main_cst_46 mu2 M1
  pointwise [sum_but_second3]
  rfl

theorem v194_apply (o : Fin 128) : val_main_v194 (F := Ideal) x0 x1 x2 x3 x4 x5 x6 x7 x8 x9 (ix1 o) = var2 (M1 x0 x1 x2 x3 x4 x5 x6 x7 x8 x9) o := by
  unfold val_main_v194 val_main_v193 val_main_v192 val_main_v191 val_main_v190 val_main_v189 val_main_v188 val_main_cst_47 val_main_cst_48 var2
  pointwise [sum_but_second3, v187_apply]
  rfl

theorem v215_apply (b : Fin 2) (o : Fin 128) (n : Fin 4096) : val_main_v215 (F := Ideal) x0 x1 x2 x3 x4 x5 x6 x7 x8 x9 x10 x11 x12 x13 (ix3 b o n)
    = outR (M1 x0 x1 x2 x3 x4 x5 x6 x7 x8 x9) (fun c => x10 (ix1 c)) (fun c => x11 (ix1 c)) (fun c o => x12 (ix2 o c)) (fun o => x13 (ix1 o)) b n o := by
  unfold outR bnR
  pointwise [val_main_v215, val_main_v214, val_main_v213, val_main_v212, val_main_v211, val_main_v210, val_main_v209, val_main_v208, val_main_v207, val_main_v206,
    val_main_v205, val_main_v204, val_main_v203, val_main_v202, val_main_v201, val_main_v200, val_main_v199, val_main_v198, val_main_v197, val_main_v196,
    val_main_v195, val_main_v188, val_main_cst_49, val_main_cst_50, v187_apply, v194_apply,
    dot_S2x128x4096_S128x128_S2x4096x128_1_1_02_0_n_n]
  rfl

end Cert.ReferenceIdeal.Rd

end

end
-- ==== Proof.Real.lean ====
module

public import proofs.«01_k».proof.Proof.RefTail

@[expose] public section

set_option maxRecDepth 16384

noncomputable section

/-! Where the values are real numbers: the operations that keep them real, and the two forms of a neighbourhood's features
and of a batch normalisation, which agree there. -/

namespace Cert.Pf

open Idealize.ShloMosaic

/-- A real number, and one that is not negative. -/
def Rl (x : EReal) : Prop := ∃ r : ℝ, x = (r : EReal)
def Nn (x : EReal) : Prop := ∃ r : ℝ, 0 ≤ r ∧ x = (r : EReal)
def Ps (x : EReal) : Prop := ∃ r : ℝ, 0 < r ∧ x = (r : EReal)

theorem Nn.rl {x : EReal} : Nn x → Rl x := fun ⟨r, _, h⟩ => ⟨r, h⟩
theorem Ps.nn {x : EReal} : Ps x → Nn x := fun ⟨r, h0, h⟩ => ⟨r, h0.le, h⟩
theorem Ps.rl {x : EReal} (h : Ps x) : Rl x := h.nn.rl

theorem Rl.zero : Rl 0 := ⟨0, rfl⟩
theorem Rl.add {x y : EReal} : Rl x → Rl y → Rl (x + y) := fun ⟨a, ha⟩ ⟨b, hb⟩ => ⟨a + b, by rw [ha, hb, EReal.coe_add]⟩
theorem Rl.sub {x y : EReal} : Rl x → Rl y → Rl (x - y) := fun ⟨a, ha⟩ ⟨b, hb⟩ => ⟨a - b, by rw [ha, hb, EReal.coe_sub]⟩
theorem Rl.mul {x y : EReal} : Rl x → Rl y → Rl (x * y) := fun ⟨a, ha⟩ ⟨b, hb⟩ => ⟨a * b, by rw [ha, hb, EReal.coe_mul]⟩
theorem Rl.max {x y : EReal} (hx : Rl x) (hy : Rl y) : Rl (max x y) := by
  rcases max_choice x y with h | h <;> rw [h] <;> assumption
theorem Rl.sq {x : EReal} : Rl x → Nn (x * x) := fun ⟨a, ha⟩ => ⟨a * a, mul_self_nonneg a, by rw [ha, EReal.coe_mul]⟩
theorem Nn.add {x y : EReal} : Nn x → Nn y → Nn (x + y) := fun ⟨a, h, ha⟩ ⟨b, k, hb⟩ => ⟨a + b, add_nonneg h k, by rw [ha, hb, EReal.coe_add]⟩
theorem Nn.add_ps {x y : EReal} : Nn x → Ps y → Ps (x + y) :=
  fun ⟨a, h, ha⟩ ⟨b, k, hb⟩ => ⟨a + b, add_pos_of_nonneg_of_pos h k, by rw [ha, hb, EReal.coe_add]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable {ι : Type} [Fintype ι] {f : ι → EReal}

theorem Rl.fn (h : ∀ i, Rl (f i)) : ∃ r : ι → ℝ, f = fun i => (r i : EReal) := by
  choose r hr using h
  exact ⟨r, funext hr⟩

theorem Rl.sum (h : ∀ i, Rl (f i)) : Rl (∑ i, f i) := by
  obtain ⟨r, rfl⟩ := Rl.fn h
  exact ⟨∑ i, r i, (coe_sum _ _).symm⟩

theorem Nn.sum (h : ∀ i, Nn (f i)) : Nn (∑ i, f i) := by
  choose r h0 hr using h
  exact ⟨∑ i, r i, Finset.sum_nonneg fun i _ => h0 i, by rw [coe_sum]; exact Finset.sum_congr rfl fun i _ => hr i⟩

theorem Rl.sup [Nonempty ι] (h : ∀ i, Rl (f i)) : Rl (Finset.univ.sup f) := by
  obtain ⟨i, _, e⟩ := Finset.exists_mem_eq_sup Finset.univ Finset.univ_nonempty f
  exact e ▸ h i

theorem Rl.inf [Nonempty ι] (h : ∀ i, Rl (f i)) : Rl (Finset.univ.inf f) := by
  obtain ⟨i, _, e⟩ := Finset.exists_mem_eq_inf Finset.univ Finset.univ_nonempty f
  exact e ▸ h i
end

theorem div_coe (a b : ℝ) (hb : b ≠ 0) : Ideal.div (a : EReal) (b : EReal) = ((a / b : ℝ) : EReal) := by
  unfold Ideal.div
  rw [if_neg (EReal.coe_ne_zero.mpr hb), ← EReal.coe_inv, ← EReal.coe_mul, div_eq_mul_inv]

theorem Rl.div {x y : EReal} : Rl x → Ps y → Rl (Ideal.div x y) :=
  fun ⟨a, ha⟩ ⟨b, hb, hy⟩ => ⟨a / b, by rw [ha, hy, div_coe _ _ hb.ne']⟩
theorem Nn.div {x y : EReal} : Nn x → Ps y → Nn (Ideal.div x y) :=
  fun ⟨a, h, ha⟩ ⟨b, hb, hy⟩ => ⟨a / b, div_nonneg h hb.le, by rw [ha, hy, div_coe _ _ hb.ne']⟩

theorem sqrt_coe (a : ℝ) (h : 0 ≤ a) : Ideal.sqrt (a : EReal) = (Real.sqrt a : EReal) := if_neg (not_lt.mpr h)
theorem rsqrt_coe (a : ℝ) (h : 0 < a) : Ideal.rsqrt (a : EReal) = ((Real.sqrt a)⁻¹ : ℝ) :=
  (if_neg (not_lt.mpr h.le)).trans (if_neg h.ne')

theorem Nn.sqrt {x : EReal} : Nn x → Nn (Ideal.sqrt x) := fun ⟨a, h, ha⟩ => ⟨Real.sqrt a, Real.sqrt_nonneg a, by rw [ha, sqrt_coe a h]⟩
theorem Nn.sqrt_sq {x : EReal} : Nn x → Ideal.sqrt x * Ideal.sqrt x = x := fun ⟨a, h, ha⟩ => by
  rw [ha, sqrt_coe a h, ← EReal.coe_mul, Real.mul_self_sqrt h]

theorem Rl.sin {x : EReal} : Rl x → Rl (Ideal.sin x) := fun ⟨a, ha⟩ => ⟨Real.sin a, by rw [ha]; rfl⟩
theorem Rl.cos {x : EReal} : Rl x → Rl (Ideal.cos x) := fun ⟨a, ha⟩ => ⟨Real.cos a, by rw [ha]; rfl⟩
theorem Rl.round {x : EReal} (f : ℝ → ℤ) : Rl x → Rl (Ideal.liftRound f x) := fun ⟨a, ha⟩ => ⟨(f a : ℝ), by rw [ha]; rfl⟩

/-- The constants are positive. -/
theorem ps_const (b : BitVec 32) (h0 : b.extractLsb' 31 1 ≠ 1#1) (h1 : (b.extractLsb' 23 8).toNat ≠ 255) (h2 : (b.extractLsb' 23 8).toNat ≠ 0) :
    Ps (Ideal.ofBits .f32 b) := by
  refine ⟨((1 : ℝ) * (2 ^ 23 + (b.extractLsb' 0 23).toNat : Nat) * (2 : ℝ) ^ (((b.extractLsb' 23 8).toNat : Int) - (2 ^ (8 - 1) - 1) - (23 : Nat))),
    mul_pos (mul_pos one_pos (Nat.cast_pos.mpr (by positivity))) (zpow_pos two_pos _), ?_⟩
  show Ideal.ieee 8 23 b = _
  unfold Ideal.ieee
  have e0 : (b.extractLsb' (8 + 23) 1 == 1#1) = false := beq_eq_false_iff_ne.mpr h0
  simp only [e0]
  rw [if_neg (by simpa using h1), if_neg h2]
  rfl

theorem ps_c16 : Ps c16 := ps_const _ (by decide) (by decide) (by decide)
theorem ps_c15 : Ps c15 := ps_const _ (by decide) (by decide) (by decide)
theorem ps_c256 : Ps c256 := ps_const _ (by decide) (by decide) (by decide)
theorem ps_e8 : Ps e8 := ps_const _ (by decide) (by decide) (by decide)
theorem ps_eps : Ps epsBn := ps_const _ (by decide) (by decide) (by decide)
theorem ps_two : Ps (Ideal.ofBits .f32 0x40000000#32) := ps_const _ (by decide) (by decide) (by decide)
theorem ps_four : Ps (Ideal.ofBits .f32 0x40800000#32) := ps_const _ (by decide) (by decide) (by decide)
theorem ps_eight : Ps (Ideal.ofBits .f32 0x41000000#32) := ps_const _ (by decide) (by decide) (by decide)

section
variable {f : Fin 16 → EReal}
theorem Rl.mean (h : ∀ k, Rl (f k)) : Rl (mean f) := (Rl.sum h).div ps_c16
theorem Rl.vari (h : ∀ k, Rl (f k)) : Nn (vari f) := (Nn.sum fun k => ((h k).sub (Rl.mean h)).sq).div ps_c15
theorem Rl.devi (h : ∀ k, Rl (f k)) : Nn (devi f) := (Rl.vari h).sqrt
end

section
variable {p : Fin 16 → Fin 3 → EReal} (hp : ∀ k d, Rl (p k d))
include hp

theorem nn_len (k : Fin 16) : Nn (len p k) := (((hp k 0).sq.add (hp k 1).sq).add (hp k 2).sq).sqrt

theorem rl_ctr (d : Fin 3) : Rl (ctr p d) := Rl.mean fun k => hp k d

theorem nn_dist (k : Fin 16) : Nn (dist p k) :=
  ((((hp k 0).sub (rl_ctr hp 0)).sq.add ((hp k 1).sub (rl_ctr hp 1)).sq).add ((hp k 2).sub (rl_ctr hp 2)).sq).sqrt

theorem rl_dirsR (k : Fin 16) (d : Fin 3) : Rl (dirsR p k d) := (hp k d).div ((nn_len hp k).add_ps ps_e8)

theorem dirsR_eq (k : Fin 16) (d : Fin 3) : dirsR p k d = dirs p k d := by
  obtain ⟨y, hy, e⟩ := (nn_len hp k).add_ps ps_e8
  unfold dirsR dirs Ideal.div
  rw [e, if_neg (EReal.coe_ne_zero.mpr hy.ne'), if_neg (EReal.coe_ne_zero.mpr hy.ne'), one_mul]

theorem rl_nsum (d : Fin 3) : Rl (nsum p d) := Rl.sum fun k => dirsR_eq hp k d ▸ rl_dirsR hp k d

theorem dconsR_eq : dconsR p = dcons p := by
  have h := fun k d => rl_dirsR hp k d
  choose r hr using h
  have hn (d : Fin 3) : nsum p d = ((∑ k, r k d : ℝ) : EReal) := by
    rw [coe_sum]
    exact Finset.sum_congr rfl fun k _ => (dirsR_eq hp k d).symm.trans (hr k d)
  unfold dconsR dcons
  simp only [hr, hn, ← EReal.coe_mul, ← coe_sum, ← EReal.coe_add]
  refine congrArg (fun s : ℝ => Ideal.div (s : EReal) c256) ?_
  simp only [Fin.sum_univ_three, Finset.sum_add_distrib, Finset.sum_mul_sum]

theorem spreadR_eq : spreadR p = spread p := by
  unfold spreadR spread
  rw [Fin.sum_univ_three]
  unfold devi
  rw [(Rl.vari fun k => hp k 0).sqrt_sq, (Rl.vari fun k => hp k 1).sqrt_sq, (Rl.vari fun k => hp k 2).sqrt_sq]

theorem featR_eq : featR p = featS p := by
  unfold featR featS
  rw [dconsR_eq hp, spreadR_eq hp]

theorem rl_featS (f : Fin 10) : Rl (featS p f) := by
  have hd := fun k => (nn_dist hp k).rl
  have hz := fun k => hp k 2
  match f with
  | ⟨0, _⟩ => exact Rl.sup hd
  | ⟨1, _⟩ => exact Rl.mean hd
  | ⟨2, _⟩ => exact (Rl.devi hd).rl
  | ⟨3, _⟩ => exact (((rl_nsum hp 0).mul (rl_nsum hp 0)).add ((rl_nsum hp 1).mul (rl_nsum hp 1))).add ((rl_nsum hp 2).mul (rl_nsum hp 2)) |>.div ps_c256
  | ⟨4, _⟩ => exact (Rl.devi hz).rl
  | ⟨5, _⟩ => exact (Rl.sup hz).sub (Rl.inf hz)
  | ⟨6, _⟩ => exact rl_ctr hp 0
  | ⟨7, _⟩ => exact rl_ctr hp 1
  | ⟨8, _⟩ => exact rl_ctr hp 2
  | ⟨9, _⟩ => exact (((Rl.vari fun k => hp k 0).add (Rl.vari fun k => hp k 1)).add (Rl.vari fun k => hp k 2)).sqrt.rl
end

theorem rl_encS {g : Fin 3 → EReal} (h : ∀ d, Rl (g d)) (x : Fin 24) : Rl (KernelIdeal.Knn.encS g x) := by
  unfold KernelIdeal.Knn.encS
  split
  · exact (h _).sin
  split
  · exact (h _).cos
  split
  · exact ((h _).mul ps_two.rl).sin
  split
  · exact ((h _).mul ps_two.rl).cos
  split
  · exact ((h _).mul ps_four.rl).sin
  split
  · exact ((h _).mul ps_four.rl).cos
  split
  · exact ((h _).mul ps_eight.rl).sin
  · exact ((h _).mul ps_eight.rl).cos

theorem rl_layer {enc : Fin 24 → EReal} {ft : Fin 10 → EReal} {p : Fin 3 → EReal} {w : Fin 40 → EReal} {b : EReal}
    (he : ∀ x, Rl (enc x)) (hf : ∀ f, Rl (ft f)) (hp : ∀ d, Rl (p d)) (hw : ∀ x, Rl (w x)) (hb : Rl b) :
    Rl (KernelIdeal.Knn.layer enc ft p w b) :=
  (((Rl.sum fun x => (he x).mul (hw _)).add (Rl.sum fun f => (hf f).mul (hw _))).add hb).add (Rl.sum fun d => (hp d).mul (hw _))

theorem rl_d2 {p q : Fin 3 → EReal} (hp : ∀ d, Rl (p d)) (hq : ∀ d, Rl (q d)) : Rl (KernelIdeal.Knn.d2 p q) :=
  ((((hp 0).sq.add (hp 1).sq).add (hp 2).sq).add (((hq 0).sq.add (hq 1).sq).add (hq 2).sq)).rl.sub (ps_two.rl.mul (Rl.sum fun d => (hp d).mul (hq d)))

theorem Rl.lt_top {x : EReal} : Rl x → x < ⊤ := fun ⟨a, ha⟩ => ha ▸ EReal.coe_lt_top a

/-- The mean square less the squared mean is the mean squared deviation. -/
theorem var_eq {ι : Type} [Fintype ι] {f : ι → EReal} (hf : ∀ i, Rl (f i)) {cnt : EReal} {N : ℝ} (hc : cnt = (N : EReal)) (hN : (Fintype.card ι : ℝ) = N)
    (h0 : 0 < N) : momVar cnt (∑ i, f i) (∑ i, f i * f i) = Ideal.div (∑ i, (f i - Ideal.div (∑ i, f i) cnt) * (f i - Ideal.div (∑ i, f i) cnt)) cnt := by
  obtain ⟨r, rfl⟩ := Rl.fn hf
  unfold momVar mom
  simp only [hc, ← EReal.coe_mul, ← coe_sum, div_coe _ _ h0.ne', ← EReal.coe_sub]
  refine congrArg ((↑) : ℝ → EReal) ?_
  set m := (∑ i, r i) / N with hm
  have hs : ∑ i, r i = m * N := by rw [hm, div_mul_cancel₀ _ h0.ne']
  have e : ∑ i, (r i - m) * (r i - m) = (∑ i, r i * r i) - N * (m * m) := by
    have : ∀ i, (r i - m) * (r i - m) = r i * r i - 2 * m * r i + m * m := fun i => by ring
    simp only [this, Finset.sum_add_distrib, Finset.sum_sub_distrib, ← Finset.mul_sum, hs, Finset.sum_const, Finset.card_univ, nsmul_eq_mul, hN]
    ring
  rw [e, sub_div, mul_comm N, mul_div_assoc, div_self h0.ne', mul_one]

/-- The normalisation by a factor and a shift is the normalisation by a mean and a deviation. -/
theorem bn_eq {h m v g be : EReal} (hh : Rl h) (hm : Rl m) (hv : Nn v) (hg : Rl g) :
    h * (g * Ideal.rsqrt (v + epsBn)) + (be - m * (g * Ideal.rsqrt (v + epsBn))) = bnR m v h g be := by
  obtain ⟨s, hs, e⟩ := hv.add_ps ps_eps
  obtain ⟨h, rfl⟩ := hh
  obtain ⟨m, rfl⟩ := hm
  obtain ⟨g, rfl⟩ := hg
  unfold bnR
  have hq : Real.sqrt s ≠ 0 := (Real.sqrt_pos.mpr hs).ne'
  rw [e, rsqrt_coe s hs, sqrt_coe s hs.le, ← EReal.coe_sub, div_coe _ _ hq, ← EReal.coe_mul, ← EReal.coe_mul, ← EReal.coe_mul, ← EReal.coe_mul,
    sub_eq_add_neg be, ← EReal.coe_neg, add_comm be, ← add_assoc, ← EReal.coe_add]
  refine congrArg (fun t : ℝ => (t : EReal) + be) ?_
  field_simp
  try ring

theorem rl_bnR {h m v g be : EReal} (hh : Rl h) (hm : Rl m) (hv : Nn v) (hg : Rl g) (hb : Rl be) : Rl (bnR m v h g be) := by
  obtain ⟨s, hs, e⟩ := hv.add_ps ps_eps
  refine ((hh.sub hm).div ⟨Real.sqrt s, Real.sqrt_pos.mpr hs, ?_⟩).mul hg |>.add hb
  rw [e, sqrt_coe s hs.le]

end Cert.Pf

end

end
-- ==== Proof.PreRead.lean ====
module

public import proofs.«01_k».proof.Pre_finite_and_no_eigen_weights
public import Idealize.ShloMosaic.Lib.ReduceAll
public import Idealize.ShloMosaic.Lib.Pointwise
public import proofs.«01_k».proof.Proof.Real
public import proofs.«01_k».proof.Proof.Knn

@[expose] public section

set_option maxRecDepth 16384

noncomputable section

/-! The precondition, read: the arguments it names are real, and the left-out features' weights are zero. -/

namespace Cert.Pre

open Idealize.ShloMosaic Cert.Pf Cert.Pre_finite_and_no_eigen_weights

instance : Subsingleton S_.Idx := ⟨fun _ _ => funext fun i => i.elim0⟩

/-- A value whose modulus is below the infinity is real. -/
theorem rl_of_abs {x : EReal} (h : max x (-x) < Ideal.ofBits .f32 0x7F800000#32) : Rl x := by
  rw [KernelIdeal.Knn.ofBits_inf] at h
  refine ⟨x.toReal, (EReal.coe_toReal (fun e => ?_) fun e => ?_).symm⟩
  · rw [e] at h; exact absurd h (by simp)
  · rw [e] at h; exact absurd h (by simp)

section
variable {s : Shape} {axes : List (Fin s.rank)}

/-- An array all of whose moduli are below the infinity holds real numbers. -/
theorem all_real (a : FVec Ideal s .f32) (hb : S_.BroadcastsInDim s (![] : Fin 0 → Fin s.rank)) (hr : s.ReducesTo axes S_) (hn : 0 < S_.numel)
    (h : Host.reduce IntOp.andi (cmpf .olt (Host.absf a) (broadcastInDim s ![] hb (constant (F := Ideal) S_ .f32 0x7F800000#32))) (constantI S_ 1 1#1) hr hn ix0 = 1#1)
    (i : s.Idx) : Rl (a i) :=
  rl_of_abs ((Ideal.cmp_olt_eq_one _ _).mp (Host.reduce_andi_all _ _ hr hn ix0 h i))

/-- An array all of whose entries equal zero. -/
theorem all_zero (a : FVec Ideal s .f32) (hb : S_.BroadcastsInDim s (![] : Fin 0 → Fin s.rank)) (hr : s.ReducesTo axes S_) (hn : 0 < S_.numel)
    (h : Host.reduce IntOp.andi (cmpf .oeq a (broadcastInDim s ![] hb (constant (F := Ideal) S_ .f32 0x00000000#32))) (constantI S_ 1 1#1) hr hn ix0 = 1#1)
    (i : s.Idx) : a i = 0 :=
  ((Ideal.cmp_oeq_eq_one _ _).mp (Host.reduce_andi_all _ _ hr hn ix0 h i)).trans (by
    show Ideal.ofBits .f32 0x00000000#32 = 0
    simp [Ideal.ofBits, Ideal.ieee])
end

variable [Facts]
variable (a0 : FVec Ideal S2x128x4096 .f32) (a1 : FVec Ideal S2x4096x3 .f32) (a2 : FVec Ideal S16x40 .f32) (a3 a4 a5 : FVec Ideal S16 .f32)
  (a6 : FVec Ideal S16x16 .f32) (a7 : FVec Ideal S16 .f32) (a8 : FVec Ideal S128x144 .f32) (a9 a10 a11 : FVec Ideal S128 .f32)
  (a12 : FVec Ideal S128x128 .f32) (a13 : FVec Ideal S128 .f32)

theorem read (h : fn (F := Ideal) a0 a1 a2 a3 a4 a5 a6 a7 a8 a9 a10 a11 a12 a13 = fun _ => 1#1) :
    (∀ (f : Fin 3) (o : Fin 16), a2 (ix2 o (KernelIdeal.Knn.eig f)) = 0) ∧ (∀ i, Rl (a0 i)) ∧ (∀ i, Rl (a1 i)) ∧ (∀ i, Rl (a2 i)) ∧ (∀ i, Rl (a3 i))
      ∧ (∀ i, Rl (a4 i)) ∧ (∀ i, Rl (a5 i)) ∧ (∀ i, Rl (a6 i)) ∧ (∀ i, Rl (a7 i)) ∧ (∀ i, Rl (a8 i)) ∧ (∀ i, Rl (a9 i)) ∧ ∀ i, Rl (a10 i) := by
  have e := congrFun h ix0
  simp only [fn, fn_part1, fn_part2, fn_part3, andi_apply, IntOp.andi_eq_one] at e
  obtain ⟨⟨⟨⟨⟨⟨⟨⟨⟨⟨⟨ez, e0⟩, e1⟩, e2⟩, e3⟩, e4⟩, e5⟩, e6⟩, e7⟩, e8⟩, e9⟩, e10⟩ := e
  refine ⟨fun f o => ?_, all_real a0 _ _ _ e0, all_real a1 _ _ _ e1, all_real a2 _ _ _ e2, all_real a3 _ _ _ e3, all_real a4 _ _ _ e4, all_real a5 _ _ _ e5,
    all_real a6 _ _ _ e6, all_real a7 _ _ _ e7, all_real a8 _ _ _ e8, all_real a9 _ _ _ e9, all_real a10 _ _ _ e10⟩
  have := all_zero _ _ _ _ ez (ix2 o f)
  revert this
  pointwise
  exact id

end Cert.Pre

end

end
-- ==== Proof.Agree.lean ====
module

public import proofs.«01_k».proof.Proof.Real
public import proofs.«01_k».proof.Proof.Knn

@[expose] public section

set_option maxRecDepth 16384

noncomputable section

/-! The kernel's three launches and the reference compute the same values, entry by entry, where the arguments are real. -/

namespace Cert.Agree

open Idealize.ShloMosaic Cert.Pf Cert.ReferenceIdeal.Rd
open Cert.ReferenceIdeal (S2x128x4096 S2x4096x3 S16x40 S16 S16x16 S128x144 S128 S128x128)

theorem cnt1 : KernelIdeal.Mid.cnt = ((131072 : ℝ) : EReal) := by
  unfold KernelIdeal.Mid.cnt
  simp [Ideal.ofBits, Ideal.ieee]
  rw [← EReal.coe_mul]
  norm_num

theorem cnt2 : KernelIdeal.Out.cnt = ((8192 : ℝ) : EReal) := by
  unfold KernelIdeal.Out.cnt
  simp [Ideal.ofBits, Ideal.ieee]
  rw [← EReal.coe_mul]
  norm_num

theorem ps_cnt1 : Ps KernelIdeal.Mid.cnt := ⟨131072, by norm_num, cnt1⟩
theorem ps_cnt2 : Ps KernelIdeal.Out.cnt := ⟨8192, by norm_num, cnt2⟩

section
variable {H : Fin 2 → Fin 16 → Fin 4096 → Fin 16 → EReal} (hH : ∀ b o n k, Rl (H b o n k))
include hH

theorem rl_mu1 (o : Fin 16) : Rl (mu1 H o) := (Rl.sum fun b => Rl.sum fun n => Rl.sum fun k => hH b o n k).div ps_cnt1

theorem nn_var1 (o : Fin 16) : Nn (var1 H o) :=
  (Nn.sum fun b => Nn.sum fun n => Nn.sum fun k => ((hH b o n k).sub (rl_mu1 hH o)).sq).div ps_cnt1

theorem momVar1 (o : Fin 16) :
    momVar KernelIdeal.Mid.cnt (∑ b, ∑ n, ∑ k, H b o n k) (∑ b, ∑ n, ∑ k, H b o n k * H b o n k) = var1 H o := by
  have h := var_eq (ι := Fin 2 × Fin 4096 × Fin 16) (f := fun q => H q.1 o q.2.1 q.2.2) (fun q => hH _ _ _ _) cnt1
    (by simp only [Fintype.card_prod, Fintype.card_fin]; norm_num) (by norm_num)
  simp only [Fintype.sum_prod_type] at h
  exact h
end

section
variable {M : Fin 2 → Fin 128 → Fin 4096 → EReal} (hM : ∀ b o n, Rl (M b o n))
include hM

theorem rl_mu2 (o : Fin 128) : Rl (mu2 M o) := (Rl.sum fun b => Rl.sum fun n => hM b o n).div ps_cnt2

theorem nn_var2 (o : Fin 128) : Nn (var2 M o) := (Nn.sum fun b => Nn.sum fun n => ((hM b o n).sub (rl_mu2 hM o)).sq).div ps_cnt2

theorem momVar2 (o : Fin 128) : momVar KernelIdeal.Out.cnt (∑ b, ∑ n, M b o n) (∑ b, ∑ n, M b o n * M b o n) = var2 M o := by
  have h := var_eq (ι := Fin 2 × Fin 4096) (f := fun q => M q.1 o q.2) (fun q => hM _ _ _) cnt2
    (by simp only [Fintype.card_prod, Fintype.card_fin]; norm_num) (by norm_num)
  simp only [Fintype.sum_prod_type] at h
  exact h
end

section
variable {x0 : Vec Ideal S2x128x4096 .f32} {x1 : Vec Ideal S2x4096x3 .f32} {x2 : Vec Ideal S16x40 .f32} {x3 x4 x5 : Vec Ideal S16 .f32}
  {x6 : Vec Ideal S16x16 .f32} {x7 : Vec Ideal S16 .f32} {x8 : Vec Ideal S128x144 .f32} {x9 x10 x11 : Vec Ideal S128 .f32}
  {x12 : Vec Ideal S128x128 .f32} {x13 : Vec Ideal S128 .f32}
variable (h0 : ∀ i, Rl (x0 i)) (h1 : ∀ i, Rl (x1 i)) (h2 : ∀ i, Rl (x2 i)) (h3 : ∀ i, Rl (x3 i)) (h4 : ∀ i, Rl (x4 i)) (h5 : ∀ i, Rl (x5 i))
  (h6 : ∀ i, Rl (x6 i)) (h7 : ∀ i, Rl (x7 i)) (h8 : ∀ i, Rl (x8 i)) (h9 : ∀ i, Rl (x9 i)) (h10 : ∀ i, Rl (x10 i))

section
include h1

theorem rl_offsR (b : Fin 2) (n : Fin 4096) (k : Fin 16) (e : Fin 3) : Rl (offsR x1 b n k e) := (h1 _).sub (h1 _)

/-- The reference's first layer, in the kernel's form. -/
theorem H1_eq (b : Fin 2) (o : Fin 16) (n : Fin 4096) (k : Fin 16) : H1 x1 x2 x3 b o n k
    = KernelIdeal.Knn.layer (KernelIdeal.Knn.encS fun d => Ideal.liftRound Int.floor (x1 (ix3 b n d))) (featS (offsR x1 b n)) (offsR x1 b n k)
        (fun x => x2 (ix2 o x)) (x3 (ix1 o)) := by
  unfold H1
  rw [v146_apply, R_eq x1 (fun b n m => (rl_d2 (fun e => h1 _) (fun e => h1 _)).lt_top) b n, featR_eq (rl_offsR h1 b n)]

include h2 h3

theorem rl_H1 (b : Fin 2) (o : Fin 16) (n : Fin 4096) (k : Fin 16) : Rl (H1 x1 x2 x3 b o n k) := by
  rw [H1_eq h1]
  exact rl_layer (rl_encS fun d => (h1 _).round _) (rl_featS (rl_offsR h1 b n)) (rl_offsR h1 b n k) (fun x => h2 _) (h3 _)

include h4 h5 h6 h7

theorem rl_posR (b : Fin 2) (n : Fin 4096) (q : Fin 16) :
    Rl (posR (H1 x1 x2 x3) (fun i => x4 (ix1 i)) (fun i => x5 (ix1 i)) (fun i q => x6 (ix2 q i)) (fun q => x7 (ix1 q)) b n q) :=
  have hH := rl_H1 h1 h2 h3
  Rl.sup fun k => (Rl.sum fun i => ((rl_bnR (hH b i n k) (rl_mu1 hH i) (nn_var1 hH i) (h4 _) (h5 _)).max Rl.zero).mul (h6 _)).add (h7 _)

include h0 h8 h9

theorem rl_M1 (b : Fin 2) (o : Fin 128) (n : Fin 4096) : Rl (M1 x0 x1 x2 x3 x4 x5 x6 x7 x8 x9 b o n) := by
  rw [M1_eq]
  exact ((Rl.sum fun k => (h0 _).mul (h8 _)).add (Rl.sum fun q => (rl_posR h1 h2 h3 h4 h5 h6 h7 b n q).mul (h8 _))).add (h9 _)
end

open Cert.KernelIdeal hiding S2x128x4096 S2x4096x3 S16x40 S16 S16x16 S128x144 S128 S128x128

variable (V : (c : Dev nD) → (b : Ref sig .tc) → Buf (Elt Ideal) ((c.tc : Thread nD τ).loc b)) (c : Dev nD)

/-- The first launch leaves the first layer. -/
theorem h1_agree (h1 : ∀ i, Rl (x1 i)) (e1 : Knn.pts V c = x1) (e2 : ∀ b e n, Knn.ptsT V c (ix3 b e n) = x1 (ix3 b n e))
    (e3 : ∀ f o, Knn.w1A V c (ix2 f o) = x2 (ix2 o f)) (e4 : ∀ o, Knn.b1A V c (ix2 0 o) = x3 (ix1 o)) (b : Fin 2) (n : Fin 4096) (j o : Fin 16) :
    Knn.h1A V c b n j o = H1 x1 x2 x3 b o n j := by
  rw [H1_eq h1]
  have eo : Knn.offs V c b n = offsR x1 b n := by
    unfold Knn.offs offsR
    simp only [e1, e2]
  unfold Knn.h1A
  simp only [eo, e1, e3, e4]

/-- The second launch's arrays. -/
abbrev hA : Vec Ideal S2x4096x256 .f32 := V c main_v17_0
abbrev xA : Vec Ideal S2x4096x128 .f32 := V c main_v1
abbrev stA : Vec Ideal S2x16 .f32 := V c main_v17_1
abbrev g1A : Vec Ideal S1x16 .f32 := V c main_v10
abbrev be1A : Vec Ideal S1x16 .f32 := V c main_v11
abbrev w2A : Vec Ideal S16x16 .f32 := V c main_v3
abbrev b2A : Vec Ideal S1x16 .f32 := V c main_v12
abbrev wxA : Vec Ideal S128x128 .f32 := V c main_v5
abbrev wpA : Vec Ideal S16x128 .f32 := V c main_v7
abbrev bmA : Vec Ideal S1x128 .f32 := V c main_v13

/-- The second launch leaves the mixed channels. -/
theorem mid_agree (h1 : ∀ i, Rl (x1 i)) (h2 : ∀ i, Rl (x2 i)) (h3 : ∀ i, Rl (x3 i)) (h4 : ∀ i, Rl (x4 i))
    (eh : ∀ b n j o, hA V c (ix3 b n (Mid.lane j o)) = H1 x1 x2 x3 b o n j)
    (es : ∀ o, stA V c (ix2 0 o) = ∑ b, ∑ n, ∑ k, H1 x1 x2 x3 b o n k)
    (eq : ∀ o, stA V c (ix2 1 o) = ∑ b, ∑ n, ∑ k, H1 x1 x2 x3 b o n k * H1 x1 x2 x3 b o n k)
    (ex : ∀ b n k, xA V c (ix3 b n k) = x0 (ix3 b k n)) (eg : ∀ o, g1A V c (ix2 0 o) = x4 (ix1 o)) (eb : ∀ o, be1A V c (ix2 0 o) = x5 (ix1 o))
    (ew : ∀ i q, w2A V c (ix2 i q) = x6 (ix2 q i)) (e7 : ∀ q, b2A V c (ix2 0 q) = x7 (ix1 q))
    (e8 : ∀ k o, wxA V c (ix2 k o) = x8 (ix2 o (Fin.castAdd 16 k))) (e8' : ∀ q o, wpA V c (ix2 q o) = x8 (ix2 o (Fin.natAdd 128 q)))
    (e9 : ∀ o, bmA V c (ix2 0 o) = x9 (ix1 o)) (b : Fin 2) (n : Fin 4096) (o : Fin 128) :
    Mid.midA V c b n o = M1 x0 x1 x2 x3 x4 x5 x6 x7 x8 x9 b o n := by
  have hH := rl_H1 h1 h2 h3
  rw [M1_eq]
  unfold Mid.midA Mid.midV Mid.pos posR bnC bnA
  simp only [eh, es, eq, ex, eg, eb, ew, e7, e8, e8', e9, momVar1 hH]
  simp only [mom, show ∀ i, Ideal.div (∑ b, ∑ n, ∑ k, H1 x1 x2 x3 b i n k) Mid.cnt = mu1 (H1 x1 x2 x3) i from fun _ => rfl,
    fun i k => bn_eq (hH b i n k) (rl_mu1 hH i) (nn_var1 hH i) (h4 (ix1 i)) (be := x5 (ix1 i))]

/-- The third launch's arrays. -/
abbrev mA : Vec Ideal S2x4096x128 .f32 := V c main_v18_0
abbrev smA : Vec Ideal S2x128 .f32 := V c main_v18_1
abbrev gmA : Vec Ideal S1x128 .f32 := V c main_v14
abbrev bemA : Vec Ideal S1x128 .f32 := V c main_v15
abbrev w3A : Vec Ideal S128x128 .f32 := V c main_v8
abbrev b3A : Vec Ideal S1x128 .f32 := V c main_v16

/-- The third launch leaves the result. -/
theorem out_agree {M : Fin 2 → Fin 128 → Fin 4096 → EReal} (hM : ∀ b o n, Rl (M b o n)) (h10 : ∀ i, Rl (x10 i))
    (em : ∀ b n o, mA V c (ix3 b n o) = M b o n)
    (es : ∀ o, smA V c (ix2 0 o) = ∑ b, ∑ n, M b o n) (eq : ∀ o, smA V c (ix2 1 o) = ∑ b, ∑ n, M b o n * M b o n)
    (eg : ∀ o, gmA V c (ix2 0 o) = x10 (ix1 o)) (eb : ∀ o, bemA V c (ix2 0 o) = x11 (ix1 o))
    (ew : ∀ i q, w3A V c (ix2 i q) = x12 (ix2 q i)) (e13 : ∀ q, b3A V c (ix2 0 q) = x13 (ix1 q)) (b : Fin 2) (n : Fin 4096) (o : Fin 128) :
    Out.outA V c (ix3 b n o)
      = outR M (fun c => x10 (ix1 c)) (fun c => x11 (ix1 c)) (fun c o => x12 (ix2 o c)) (fun o => x13 (ix1 o)) b n o := by
  show Out.outF (mA V c) (smA V c) (gmA V c) (bemA V c) (w3A V c) (b3A V c) b n o = _
  unfold Out.outF outR bnC bnA
  simp only [← ix2_eq_valueIdx, ← ix3_eq_valueIdx]
  simp only [em, es, eq, eg, eb, ew, e13, momVar2 hM]
  simp only [mom, show ∀ i, Ideal.div (∑ b, ∑ n, M b i n) Out.cnt = mu2 M i from fun _ => rfl,
    fun i => bn_eq (hM b i n) (rl_mu2 hM i) (nn_var2 hM i) (h10 (ix1 i)) (be := x11 (ix1 i))]
end

end Cert.Agree

end

end
-- ==== Proof.Run.lean ====
module

public import proofs.«01_k».proof.Proof.Agree

@[expose] public section

set_option maxRecDepth 16384

noncomputable section

/-! The kernel's whole run: the arrays at each boundary of its three launches, and the result it leaves. -/

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Pf

variable (m : (ℓ : Loc nD τ sig) → Buf (Elt Ideal) ℓ) (ρ : Dev nD → PrngReg) (c : Dev nD)

/-- The arguments at launch. -/
abbrev A0 : Vec Ideal S2x128x4096 .f32 := m ((c.tc : Thread nD τ).loc main_arg0)
abbrev A1 : Vec Ideal S2x4096x3 .f32 := m ((c.tc : Thread nD τ).loc main_arg1)
abbrev A2 : Vec Ideal S16x40 .f32 := m ((c.tc : Thread nD τ).loc main_arg2)
abbrev A3 : Vec Ideal S16 .f32 := m ((c.tc : Thread nD τ).loc main_arg3)
abbrev A4 : Vec Ideal S16 .f32 := m ((c.tc : Thread nD τ).loc main_arg4)
abbrev A5 : Vec Ideal S16 .f32 := m ((c.tc : Thread nD τ).loc main_arg5)
abbrev A6 : Vec Ideal S16x16 .f32 := m ((c.tc : Thread nD τ).loc main_arg6)
abbrev A7 : Vec Ideal S16 .f32 := m ((c.tc : Thread nD τ).loc main_arg7)
abbrev A8 : Vec Ideal S128x144 .f32 := m ((c.tc : Thread nD τ).loc main_arg8)
abbrev A9 : Vec Ideal S128 .f32 := m ((c.tc : Thread nD τ).loc main_arg9)
abbrev A10 : Vec Ideal S128 .f32 := m ((c.tc : Thread nD τ).loc main_arg10)
abbrev A11 : Vec Ideal S128 .f32 := m ((c.tc : Thread nD τ).loc main_arg11)
abbrev A12 : Vec Ideal S128x128 .f32 := m ((c.tc : Thread nD τ).loc main_arg12)
abbrev A13 : Vec Ideal S128 .f32 := m ((c.tc : Thread nD τ).loc main_arg13)

/-- What the host's stretch before the launches leaves. -/
theorem w1_v0 : W1 m ρ c (Proc.devRef .tc main_v0) = transpose S2x3x4096 [0, 2, 1] (A1 m c) transposes_S2x4096x3_S2x3x4096_0_2_1 := by
  unfold W1 hostOps0
  after_results_simp
theorem w1_v1 : W1 m ρ c (Proc.devRef .tc main_v1) = transpose S2x4096x128 [0, 2, 1] (A0 m c) transposes_S2x128x4096_S2x4096x128_0_2_1 := by
  unfold W1 hostOps0
  after_results_simp
theorem w1_v2 : W1 m ρ c (Proc.devRef .tc main_v2) = transpose S40x16 [1, 0] (A2 m c) transposes_S16x40_S40x16_1_0 := by
  unfold W1 hostOps0
  after_results_simp
theorem w1_v3 : W1 m ρ c (Proc.devRef .tc main_v3) = transpose S16x16 [1, 0] (A6 m c) transposes_S16x16_S16x16_1_0 := by
  unfold W1 hostOps0
  after_results_simp
theorem w1_v5 : W1 m ρ c (Proc.devRef .tc main_v5)
    = transpose S128x128 [1, 0] (extractStridedSlice S128x128 ![0, 0] (A8 m c) slices_S128x144_S128x128_0_0) transposes_S128x128_S128x128_1_0 := by
  unfold W1 hostOps0
  after_results_simp
theorem w1_v7 : W1 m ρ c (Proc.devRef .tc main_v7)
    = transpose S16x128 [1, 0] (extractStridedSlice S128x16 ![0, 128] (A8 m c) slices_S128x144_S128x16_0_128) transposes_S128x16_S16x128_1_0 := by
  unfold W1 hostOps0
  after_results_simp
theorem w1_v8 : W1 m ρ c (Proc.devRef .tc main_v8) = transpose S128x128 [1, 0] (A12 m c) transposes_S128x128_S128x128_1_0 := by
  unfold W1 hostOps0
  after_results_simp
theorem w1_v9 : W1 m ρ c (Proc.devRef .tc main_v9) = shapeCast S1x16 (A3 m c) shapeCasts_S16_S1x16 := by
  unfold W1 hostOps0
  after_results_simp
  rfl
theorem w1_v10 : W1 m ρ c (Proc.devRef .tc main_v10) = shapeCast S1x16 (A4 m c) shapeCasts_S16_S1x16 := by
  unfold W1 hostOps0
  after_results_simp
  rfl
theorem w1_v11 : W1 m ρ c (Proc.devRef .tc main_v11) = shapeCast S1x16 (A5 m c) shapeCasts_S16_S1x16 := by
  unfold W1 hostOps0
  after_results_simp
  rfl
theorem w1_v12 : W1 m ρ c (Proc.devRef .tc main_v12) = shapeCast S1x16 (A7 m c) shapeCasts_S16_S1x16 := by
  unfold W1 hostOps0
  after_results_simp
  rfl
theorem w1_v13 : W1 m ρ c (Proc.devRef .tc main_v13) = shapeCast S1x128 (A9 m c) shapeCasts_S128_S1x128 := by
  unfold W1 hostOps0
  after_results_simp
  rfl
theorem w1_v14 : W1 m ρ c (Proc.devRef .tc main_v14) = shapeCast S1x128 (A10 m c) shapeCasts_S128_S1x128 := by
  unfold W1 hostOps0
  after_results_simp
  rfl
theorem w1_v15 : W1 m ρ c (Proc.devRef .tc main_v15) = shapeCast S1x128 (A11 m c) shapeCasts_S128_S1x128 := by
  unfold W1 hostOps0
  after_results_simp
  rfl
theorem w1_v16 : W1 m ρ c (Proc.devRef .tc main_v16) = shapeCast S1x128 (A13 m c) shapeCasts_S128_S1x128 := by
  unfold W1 hostOps0
  after_results_simp
  rfl

/-! ## The first launch -/

theorem eV1_pts : Knn.pts (V1 m ρ) c = A1 m c := W1_args m ρ c main_arg1 (by decide)
theorem eV1_ptsT (b : Fin 2) (e : Fin 3) (n : Fin 4096) : Knn.ptsT (V1 m ρ) c (ix3 b e n) = A1 m c (ix3 b n e) := by
  refine (congrFun (w1_v0 m ρ c) (ix3 b e n)).trans ?_
  pointwise
theorem eV1_w (f : Fin 40) (o : Fin 16) : Knn.w1A (V1 m ρ) c (ix2 f o) = A2 m c (ix2 o f) := by
  refine (congrFun (w1_v2 m ρ c) (ix2 f o)).trans ?_
  pointwise
theorem eV1_b (o : Fin 16) : Knn.b1A (V1 m ρ) c (ix2 0 o) = A3 m c (ix1 o) := by
  refine (congrFun (w1_v9 m ρ c) (ix2 0 o)).trans ?_
  pointwise

section
variable (hz : ∀ c (f : Fin 3) (o : Fin 16), A2 m c (ix2 o (Knn.eig f)) = 0) (h1 : ∀ i, Rl (A1 m c i))

include h1 in
/-- The first layer the first launch computes is the reference's. -/
theorem h1_eq (b : Fin 2) (n : Fin 4096) (j o : Fin 16) : Knn.h1A (V1 m ρ) c b n j o = ReferenceIdeal.Rd.H1 (A1 m c) (A2 m c) (A3 m c) b o n j :=
  Agree.h1_agree (V1 m ρ) c h1 (eV1_pts m ρ c) (eV1_ptsT m ρ c) (eV1_w m ρ c) (eV1_b m ρ c) b n j o

include hz in
theorem w2_hm : W2 m ρ c (Proc.devRef .tc main_v17_0) = Knn.hmA (V1 m ρ) c :=
  (W2_arr m ρ c 5).trans (Knn.final_hm (V1 m ρ) (fun c f o => (eV1_w m ρ c _ o).trans (hz c f o)) c)
include hz in
theorem w2_st : W2 m ρ c (Proc.devRef .tc main_v17_1) = Knn.stA (V1 m ρ) c :=
  (W2_arr m ρ c 6).trans (Knn.final_st (V1 m ρ) (fun c f o => (eV1_w m ρ c _ o).trans (hz c f o)) c)

/-! ## The second launch -/

include hz h1 in
theorem eV2_h (b : Fin 2) (n : Fin 4096) (j o : Fin 16) :
    Agree.hA (V2 m ρ) c (ix3 b n (Mid.lane j o)) = ReferenceIdeal.Rd.H1 (A1 m c) (A2 m c) (A3 m c) b o n j := by
  refine (congrFun (w2_hm m ρ c hz) (ix3 b n (Mid.lane j o))).trans ?_
  refine Eq.trans ?_ (h1_eq m ρ c h1 b n j o)
  show Knn.h1A (V1 m ρ) c b n (Knn.laneJ (Knn.lane j o)) (Knn.laneO (Knn.lane j o)) = _
  rw [Knn.laneJ_lane, Knn.laneO_lane]
include hz h1 in
theorem eV2_s (o : Fin 16) :
    Agree.stA (V2 m ρ) c (ix2 0 o) = ∑ b, ∑ n, ∑ k, ReferenceIdeal.Rd.H1 (A1 m c) (A2 m c) (A3 m c) b o n k := by
  refine (congrFun (w2_st m ρ c hz) (ix2 0 o)).trans ?_
  refine (if_pos rfl).trans ?_
  exact show (∑ b, ∑ n, ∑ k, Knn.h1A (V1 m ρ) c b n k o : EReal) = _ from
    Finset.sum_congr rfl fun b _ => Finset.sum_congr rfl fun n _ => Finset.sum_congr rfl fun k _ => h1_eq m ρ c h1 b n k o
include hz h1 in
theorem eV2_q (o : Fin 16) :
    Agree.stA (V2 m ρ) c (ix2 1 o) = ∑ b, ∑ n, ∑ k, ReferenceIdeal.Rd.H1 (A1 m c) (A2 m c) (A3 m c) b o n k
      * ReferenceIdeal.Rd.H1 (A1 m c) (A2 m c) (A3 m c) b o n k := by
  refine (congrFun (w2_st m ρ c hz) (ix2 1 o)).trans ?_
  refine (if_neg (show ¬((1 : Fin 2).val = 0) by decide)).trans ?_
  exact show (∑ b, ∑ n, ∑ k, Knn.h1A (V1 m ρ) c b n k o * Knn.h1A (V1 m ρ) c b n k o : EReal) = _ from
    Finset.sum_congr rfl fun b _ => Finset.sum_congr rfl fun n _ => Finset.sum_congr rfl fun k _ =>
    congrArg₂ (· * ·) (h1_eq m ρ c h1 b n k o) (h1_eq m ρ c h1 b n k o)
end

theorem eV2_x (b : Fin 2) (n : Fin 4096) (k : Fin 128) : Agree.xA (V2 m ρ) c (ix3 b n k) = A0 m c (ix3 b k n) := by
  refine (congrFun ((W2_of m ρ c main_v1 (by decide +kernel)).trans (w1_v1 m ρ c)) (ix3 b n k)).trans ?_
  pointwise
theorem eV2_g (o : Fin 16) : Agree.g1A (V2 m ρ) c (ix2 0 o) = A4 m c (ix1 o) := by
  refine (congrFun ((W2_of m ρ c main_v10 (by decide +kernel)).trans (w1_v10 m ρ c)) (ix2 0 o)).trans ?_
  pointwise
theorem eV2_be (o : Fin 16) : Agree.be1A (V2 m ρ) c (ix2 0 o) = A5 m c (ix1 o) := by
  refine (congrFun ((W2_of m ρ c main_v11 (by decide +kernel)).trans (w1_v11 m ρ c)) (ix2 0 o)).trans ?_
  pointwise
theorem eV2_w (i q : Fin 16) : Agree.w2A (V2 m ρ) c (ix2 i q) = A6 m c (ix2 q i) := by
  refine (congrFun ((W2_of m ρ c main_v3 (by decide +kernel)).trans (w1_v3 m ρ c)) (ix2 i q)).trans ?_
  pointwise
theorem eV2_b (q : Fin 16) : Agree.b2A (V2 m ρ) c (ix2 0 q) = A7 m c (ix1 q) := by
  refine (congrFun ((W2_of m ρ c main_v12 (by decide +kernel)).trans (w1_v12 m ρ c)) (ix2 0 q)).trans ?_
  pointwise
theorem eV2_wx (k o : Fin 128) : Agree.wxA (V2 m ρ) c (ix2 k o) = A8 m c (ix2 o (Fin.castAdd 16 k)) := by
  refine (congrFun ((W2_of m ρ c main_v5 (by decide +kernel)).trans (w1_v5 m ρ c)) (ix2 k o)).trans ?_
  pointwise
  rfl
theorem eV2_wp (q : Fin 16) (o : Fin 128) : Agree.wpA (V2 m ρ) c (ix2 q o) = A8 m c (ix2 o (Fin.natAdd 128 q)) := by
  refine (congrFun ((W2_of m ρ c main_v7 (by decide +kernel)).trans (w1_v7 m ρ c)) (ix2 q o)).trans ?_
  pointwise
  rfl
theorem eV2_bm (o : Fin 128) : Agree.bmA (V2 m ρ) c (ix2 0 o) = A9 m c (ix1 o) := by
  refine (congrFun ((W2_of m ρ c main_v13 (by decide +kernel)).trans (w1_v13 m ρ c)) (ix2 0 o)).trans ?_
  pointwise

/-- The middle layer of the reference at the arguments. -/
abbrev M (b : Fin 2) (o : Fin 128) (n : Fin 4096) : EReal :=
  ReferenceIdeal.Rd.M1 (A0 m c) (A1 m c) (A2 m c) (A3 m c) (A4 m c) (A5 m c) (A6 m c) (A7 m c) (A8 m c) (A9 m c) b o n

section
variable (hz : ∀ c (f : Fin 3) (o : Fin 16), A2 m c (ix2 o (Knn.eig f)) = 0) (h1 : ∀ i, Rl (A1 m c i)) (h2 : ∀ i, Rl (A2 m c i))
  (h3 : ∀ i, Rl (A3 m c i)) (h4 : ∀ i, Rl (A4 m c i))

include hz h1 h2 h3 h4 in
/-- The middle layer the second launch computes is the reference's. -/
theorem mid_eq (b : Fin 2) (n : Fin 4096) (o : Fin 128) : Mid.midA (V2 m ρ) c b n o = M m c b o n :=
  Agree.mid_agree (V2 m ρ) c h1 h2 h3 h4 (eV2_h m ρ c hz h1) (eV2_s m ρ c hz h1) (eV2_q m ρ c hz h1) (eV2_x m ρ c) (eV2_g m ρ c) (eV2_be m ρ c)
    (eV2_w m ρ c) (eV2_b m ρ c) (eV2_wx m ρ c) (eV2_wp m ρ c) (eV2_bm m ρ c) b n o

theorem w3_hm : W3 m ρ c (Proc.devRef .tc main_v18_0) = Mid.hmA (V2 m ρ) c := (W3_arr m ρ c 10).trans (Mid.final_hm (V2 m ρ) c)
theorem w3_st : W3 m ρ c (Proc.devRef .tc main_v18_1) = Mid.stA (V2 m ρ) c := (W3_arr m ρ c 11).trans (Mid.final_st (V2 m ρ) c)

/-! ## The third launch -/

include hz h1 h2 h3 h4 in
theorem eV3_m (b : Fin 2) (n : Fin 4096) (o : Fin 128) : Agree.mA (V3 m ρ) c (ix3 b n o) = M m c b o n :=
  (congrFun (w3_hm m ρ c) (ix3 b n o)).trans (mid_eq m ρ c hz h1 h2 h3 h4 b n o)
include hz h1 h2 h3 h4 in
theorem eV3_s (o : Fin 128) : Agree.smA (V3 m ρ) c (ix2 0 o) = ∑ b, ∑ n, M m c b o n := by
  refine (congrFun (w3_st m ρ c) (ix2 0 o)).trans ?_
  refine (if_pos rfl).trans ?_
  exact show (∑ b, ∑ n, Mid.midA (V2 m ρ) c b n o : EReal) = _ from
    Finset.sum_congr rfl fun b _ => Finset.sum_congr rfl fun n _ => mid_eq m ρ c hz h1 h2 h3 h4 b n o
include hz h1 h2 h3 h4 in
theorem eV3_q (o : Fin 128) : Agree.smA (V3 m ρ) c (ix2 1 o) = ∑ b, ∑ n, M m c b o n * M m c b o n := by
  refine (congrFun (w3_st m ρ c) (ix2 1 o)).trans ?_
  refine (if_neg (show ¬((1 : Fin 2).val = 0) by decide)).trans ?_
  exact show (∑ b, ∑ n, Mid.midA (V2 m ρ) c b n o * Mid.midA (V2 m ρ) c b n o : EReal) = _ from
    Finset.sum_congr rfl fun b _ => Finset.sum_congr rfl fun n _ =>
    congrArg₂ (· * ·) (mid_eq m ρ c hz h1 h2 h3 h4 b n o) (mid_eq m ρ c hz h1 h2 h3 h4 b n o)
end

theorem w3_of (r : Ref sig .tc) (e1 : ∀ w : Fin cfg1.W, Pipeline.arrRef spec1 w = r → (cfg1.win w).isOut = false)
    (e0 : ∀ w : Fin cfg0.W, Pipeline.arrRef spec0 w = r → (cfg0.win w).isOut = false) :
    W3 m ρ c (Proc.devRef .tc r) = W1 m ρ c (Proc.devRef .tc r) := (W3_of m ρ c r e1).trans (W2_of m ρ c r e0)
theorem eV3_g (o : Fin 128) : Agree.gmA (V3 m ρ) c (ix2 0 o) = A10 m c (ix1 o) := by
  refine (congrFun ((w3_of m ρ c main_v14 (by decide +kernel) (by decide +kernel)).trans (w1_v14 m ρ c)) (ix2 0 o)).trans ?_
  pointwise
theorem eV3_be (o : Fin 128) : Agree.bemA (V3 m ρ) c (ix2 0 o) = A11 m c (ix1 o) := by
  refine (congrFun ((w3_of m ρ c main_v15 (by decide +kernel) (by decide +kernel)).trans (w1_v15 m ρ c)) (ix2 0 o)).trans ?_
  pointwise
theorem eV3_w (i q : Fin 128) : Agree.w3A (V3 m ρ) c (ix2 i q) = A12 m c (ix2 q i) := by
  refine (congrFun ((w3_of m ρ c main_v8 (by decide +kernel) (by decide +kernel)).trans (w1_v8 m ρ c)) (ix2 i q)).trans ?_
  pointwise
theorem eV3_b (o : Fin 128) : Agree.b3A (V3 m ρ) c (ix2 0 o) = A13 m c (ix1 o) := by
  refine (congrFun ((w3_of m ρ c main_v16 (by decide +kernel) (by decide +kernel)).trans (w1_v16 m ρ c)) (ix2 0 o)).trans ?_
  pointwise

theorem w4_out : W4 m ρ c (Proc.devRef .tc main_v19) = Out.outA (V3 m ρ) c := (W4_arr m ρ c 6).trans (Out.final (V3 m ρ) c)

/-- The host's last step: the result is the third launch's array transposed. -/
theorem w5_v20 : W5 m ρ c (Proc.devRef .tc main_v20)
    = transpose S2x128x4096 [0, 2, 1] (Out.outA (V3 m ρ) c) transposes_S2x4096x128_S2x128x4096_0_2_1 := by
  refine Eq.trans ?_ (congrArg (fun x : Vec Ideal S2x4096x128 .f32 => transpose S2x128x4096 [0, 2, 1] x transposes_S2x4096x128_S2x128x4096_0_2_1) (w4_out m ρ c))
  unfold W5 hostOps3
  after_results_simp

section
variable (hz : ∀ c (f : Fin 3) (o : Fin 16), A2 m c (ix2 o (Knn.eig f)) = 0)
  (h0 : ∀ i, Rl (A0 m c i)) (h1 : ∀ i, Rl (A1 m c i)) (h2 : ∀ i, Rl (A2 m c i)) (h3 : ∀ i, Rl (A3 m c i)) (h4 : ∀ i, Rl (A4 m c i))
  (h5 : ∀ i, Rl (A5 m c i)) (h6 : ∀ i, Rl (A6 m c i)) (h7 : ∀ i, Rl (A7 m c i)) (h8 : ∀ i, Rl (A8 m c i)) (h9 : ∀ i, Rl (A9 m c i))
  (h10 : ∀ i, Rl (A10 m c i))

include hz h0 h1 h2 h3 h4 h5 h6 h7 h8 h9 h10 in
/-- The kernel's result is the reference's value at the same arguments. -/
theorem result : W5 m ρ c (Proc.devRef .tc main_v20)
    = ReferenceIdeal.Read.val_main_v215 (F := Ideal) (A0 m c) (A1 m c) (A2 m c) (A3 m c) (A4 m c) (A5 m c) (A6 m c) (A7 m c) (A8 m c) (A9 m c)
        (A10 m c) (A11 m c) (A12 m c) (A13 m c) := by
  refine (w5_v20 m ρ c).trans ?_
  funext i
  rw [show i = ix3 (i 0) (i 1) (i 2) from eq_ix3 i]
  generalize i 0 = b, i 1 = o, i 2 = n
  refine Eq.trans ?_ (ReferenceIdeal.Rd.v215_apply (A0 m c) (A1 m c) (A2 m c) (A3 m c) (A4 m c) (A5 m c) (A6 m c) (A7 m c) (A8 m c) (A9 m c)
        (A10 m c) (A11 m c) (A12 m c) (A13 m c) b o n).symm
  refine Eq.trans ?_ (Agree.out_agree (V3 m ρ) c (M := M m c)
    (Agree.rl_M1 h0 h1 h2 h3 h4 h5 h6 h7 h8 h9) h10 (eV3_m m ρ c hz h1 h2 h3 h4) (eV3_s m ρ c hz h1 h2 h3 h4) (eV3_q m ρ c hz h1 h2 h3 h4)
    (eV3_g m ρ c) (eV3_be m ρ c) (eV3_w m ρ c) (eV3_b m ρ c) b n o)
  generalize Out.outA (V3 m ρ) c = y
  pointwise
end

local notation "𝕄" => MT nD τ sig Unit (Elt Ideal) ℕ (UR sig nD τ) ℕ

set_option backward.isDefEq.respectTransparency.types false in
/-- The whole run ends, with every unscoped buffer of each device at the last boundary's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- What `run_all` says of the result and of each argument. -/
theorem read_all (s : (ℓ : Loc nD τ sig) → Buf (Elt Ideal) ℓ) (h : ∀ b ∈ Pipeline.ucRefs τ sig, s ((c : Thread nD τ).1, b) = W5 m ρ c b) :
    s ((c.tc : Thread nD τ).loc main_v20) = W5 m ρ c (Proc.devRef .tc main_v20)
      ∧ ∀ a ∈ argRefs, s ((c.tc : Thread nD τ).loc a) = m ((c.tc : Thread nD τ).loc a) :=
  ⟨h _ (mem_uc main_v20 (by decide)),
    fun a ha => (h _ (mem_uc a ((show ∀ a ∈ argRefs, ¬ (Proc.devRef .tc a : DevRef τ sig).isScoped by decide) a ha))).trans (W5_args m ρ c a ha)⟩

end Cert.KernelIdeal.Whole

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_no_eigen_weights
public import Idealize.ShloMosaic.Lib.Quiescent
public import proofs.«01_k».proof.Proof.PreRead
public import proofs.«01_k».proof.Proof.Run

@[expose] public section

set_option maxRecDepth 16384

noncomputable section

/-! The claim: the kernel and its ideal reading run cleanly and keep their arguments, and on arguments that meet the precondition
the kernel's ideal reading and the reference leave the same result. -/

namespace Cert.Proof

open Idealize.ShloMosaic Idealize.ShloMosaic.TcCoe Idealize.SL.Sem

/-- The reference keeps its arguments; it has no semaphore. -/
theorem frame_reference : quiescent_ReferenceIdeal := fun m g _ =>
  (θ_run ReferenceIdeal.defs _ _).mono (fun r h => ⟨fun c => (h c).2, sem_eq_zero_of_no_sems (by decide) r.2⟩) (ReferenceIdeal.Value.run m g)

/-- The reference's value depends on its arguments alone. -/
theorem value_congr {x0 y0 : Vec Ideal ReferenceIdeal.S2x128x4096 .f32} {x1 y1 : Vec Ideal ReferenceIdeal.S2x4096x3 .f32}
    {x2 y2 : Vec Ideal ReferenceIdeal.S16x40 .f32} {x3 y3 x4 y4 x5 y5 : Vec Ideal ReferenceIdeal.S16 .f32} {x6 y6 : Vec Ideal ReferenceIdeal.S16x16 .f32}
    {x7 y7 : Vec Ideal ReferenceIdeal.S16 .f32} {x8 y8 : Vec Ideal ReferenceIdeal.S128x144 .f32}
    {x9 y9 x10 y10 x11 y11 : Vec Ideal ReferenceIdeal.S128 .f32} {x12 y12 : Vec Ideal ReferenceIdeal.S128x128 .f32} {x13 y13 : Vec Ideal ReferenceIdeal.S128 .f32}
    (e : x0 = y0 ∧ x1 = y1 ∧ x2 = y2 ∧ x3 = y3 ∧ x4 = y4 ∧ x5 = y5 ∧ x6 = y6 ∧ x7 = y7 ∧ x8 = y8 ∧ x9 = y9 ∧ x10 = y10 ∧ x11 = y11 ∧ x12 = y12 ∧ x13 = y13) :
    ReferenceIdeal.Read.val_main_v215 (F := Ideal) x0 x1 x2 x3 x4 x5 x6 x7 x8 x9 x10 x11 x12 x13
      = ReferenceIdeal.Read.val_main_v215 (F := Ideal) y0 y1 y2 y3 y4 y5 y6 y7 y8 y9 y10 y11 y12 y13 := by
  obtain ⟨rfl, rfl, rfl, rfl, rfl, rfl, rfl, rfl, rfl, rfl, rfl, rfl, rfl, rfl⟩ := e
  rfl

open KernelIdeal.Whole in
/-- On arguments that meet the precondition the kernel's result is the reference's value. -/
theorem result_of_pre (m : (ℓ : Loc KernelIdeal.nD KernelIdeal.τ KernelIdeal.sig) → Buf (Elt Ideal) ℓ) (g : Dev KernelIdeal.nD → PrngReg)
    (hp : Pre_KernelIdeal_finite_and_no_eigen_weights m) (c : Dev KernelIdeal.nD) :
    KernelIdeal.Gen.W5 m g c (Proc.devRef .tc KernelIdeal.main_v20)
      = ReferenceIdeal.Read.val_main_v215 (F := Ideal) (A0 m c) (A1 m c) (A2 m c) (A3 m c) (A4 m c) (A5 m c) (A6 m c) (A7 m c) (A8 m c) (A9 m c)
          (A10 m c) (A11 m c) (A12 m c) (A13 m c) :=
  have P := fun c => Pre.read _ _ _ _ _ _ _ _ _ _ _ _ _ _ (hp c)
  have p := P c
  result m g c (fun c f o => (P c).1 f o) p.2.1 p.2.2.1 p.2.2.2.1 p.2.2.2.2.1 p.2.2.2.2.2.1 p.2.2.2.2.2.2.1 p.2.2.2.2.2.2.2.1 p.2.2.2.2.2.2.2.2.1
    p.2.2.2.2.2.2.2.2.2.1 p.2.2.2.2.2.2.2.2.2.2.1 p.2.2.2.2.2.2.2.2.2.2.2

theorem algebraic : algebraic_KernelIdeal_ReferenceIdeal_pre_finite_and_no_eigen_weights := fun m g m' g' hp ha =>
  ⟨fun c => KernelIdeal.Gen.W5 m g c (Proc.devRef .tc KernelIdeal.main_v20),
    (θ_run KernelIdeal.defs _ _).mono (fun r h c => by
      obtain ⟨hv, hA⟩ := KernelIdeal.Whole.read_all m g c r.2.mem (h c)
      exact ⟨hv, hA _ (by decide), hA _ (by decide), hA _ (by decide), hA _ (by decide), hA _ (by decide), hA _ (by decide), hA _ (by decide),
        hA _ (by decide), hA _ (by decide), hA _ (by decide), hA _ (by decide), hA _ (by decide), hA _ (by decide), hA _ (by decide)⟩)
      (KernelIdeal.Whole.run_all m g),
    (θ_run ReferenceIdeal.defs _ _).mono (fun r h c =>
      ⟨((h c).1.trans (ReferenceIdeal.Read.val_main_v215_eq (StableHlo.launchContents m' c))).trans
        ((value_congr (ha c)).trans (result_of_pre m g hp c).symm), (h c).2⟩) (ReferenceIdeal.Value.run (F := Ideal) m' g')⟩

theorem claim : Cert.Claim :=
  ⟨Cert.Kernel.Gen.facts, Cert.KernelIdeal.Gen.facts, Cert.ReferenceIdeal.Gen.facts, Cert.Pre_finite_and_no_eigen_weights.Gen.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
